-- ==== Defs.lean ====
def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_ReferenceRIdeal (m : (ℓ : Loc Cert.ReferenceRIdeal.nD Cert.ReferenceRIdeal.τ Cert.ReferenceRIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2)
      ∧ r.2.mem ((c.tc : Thread Cert.KernelP.nD Cert.KernelP.τ).loc Cert.KernelP.main_arg3) = m ((c.tc : Thread Cert.KernelP.nD Cert.KernelP.τ).loc Cert.KernelP.main_arg3))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2)
      ∧ r.2.mem ((c.tc : Thread Cert.KernelR.nD Cert.KernelR.τ).loc Cert.KernelR.main_arg3) = m ((c.tc : Thread Cert.KernelR.nD Cert.KernelR.τ).loc Cert.KernelR.main_arg3))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2)
      ∧ r.2.mem ((c.tc : Thread Cert.KernelRIdeal.nD Cert.KernelRIdeal.τ).loc Cert.KernelRIdeal.main_arg3) = m ((c.tc : Thread Cert.KernelRIdeal.nD Cert.KernelRIdeal.τ).loc Cert.KernelRIdeal.main_arg3))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2)
      ∧ r.2.mem ((c.tc : Thread Cert.ReferenceRIdeal.nD Cert.ReferenceRIdeal.τ).loc Cert.ReferenceRIdeal.main_arg3) = m ((c.tc : Thread Cert.ReferenceRIdeal.nD Cert.ReferenceRIdeal.τ).loc Cert.ReferenceRIdeal.main_arg3))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3))
      ∧ r.2.sem = fun _ => 0)

def preserves_KernelP_KernelPIdeal : Prop :=
  IdealRules.bf16_pair.PackStatement Cert.KernelPIdeal.S256x128
  ∧ IdealRules.bf16_pair.Statement Cert.KernelPIdeal.S512x128 Cert.KernelPIdeal.S256x128

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)
      ∧ m' ((c.tc : Thread Cert.ReferencePIdeal.nD Cert.ReferencePIdeal.τ).loc Cert.ReferencePIdeal.main_arg3) = m ((c.tc : Thread Cert.KernelPIdeal.nD Cert.KernelPIdeal.τ).loc Cert.KernelPIdeal.main_arg3)) →
    ∃ (v0 : (c : Dev Cert.KernelPIdeal.nD) → Buf (Elt Ideal) ((c.tc : Thread Cert.KernelPIdeal.nD Cert.KernelPIdeal.τ).loc Cert.KernelPIdeal.main_v0)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v0) = v0 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
          ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v31) = v0 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2)
          ∧ r.2.mem ((c.tc : Thread Cert.ReferencePIdeal.nD Cert.ReferencePIdeal.τ).loc Cert.ReferencePIdeal.main_arg3) = m' ((c.tc : Thread Cert.ReferencePIdeal.nD Cert.ReferencePIdeal.τ).loc Cert.ReferencePIdeal.main_arg3))

def preserves_KernelR_KernelRIdeal : Prop :=
  IdealRules.bf16_pair.PackStatement Cert.KernelRIdeal.S128x128
  ∧ IdealRules.bf16_pair.Statement Cert.KernelRIdeal.S256x128 Cert.KernelRIdeal.S128x128

def algebraic_KernelRIdeal_ReferenceRIdeal [hKernelRIdeal : Cert.KernelRIdeal.Facts] [hReferenceRIdeal : Cert.ReferenceRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)
      ∧ m' ((c.tc : Thread Cert.ReferenceRIdeal.nD Cert.ReferenceRIdeal.τ).loc Cert.ReferenceRIdeal.main_arg3) = m ((c.tc : Thread Cert.KernelRIdeal.nD Cert.KernelRIdeal.τ).loc Cert.KernelRIdeal.main_arg3)) →
    ∃ (v0 : (c : Dev Cert.KernelRIdeal.nD) → Buf (Elt Ideal) ((c.tc : Thread Cert.KernelRIdeal.nD Cert.KernelRIdeal.τ).loc Cert.KernelRIdeal.main_v4_0)) (v1 : (c : Dev Cert.KernelRIdeal.nD) → Buf (Elt Ideal) ((c.tc : Thread Cert.KernelRIdeal.nD Cert.KernelRIdeal.τ).loc Cert.KernelRIdeal.main_v4_1)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v4_0) = v0 c
          ∧ r.2.mem ((c.tc : Thread Cert.KernelRIdeal.nD Cert.KernelRIdeal.τ).loc Cert.KernelRIdeal.main_v4_1) = v1 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2)
          ∧ r.2.mem ((c.tc : Thread Cert.KernelRIdeal.nD Cert.KernelRIdeal.τ).loc Cert.KernelRIdeal.main_arg3) = m ((c.tc : Thread Cert.KernelRIdeal.nD Cert.KernelRIdeal.τ).loc Cert.KernelRIdeal.main_arg3))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v32) = v0 c
          ∧ r.2.mem ((c.tc : Thread Cert.ReferenceRIdeal.nD Cert.ReferenceRIdeal.τ).loc Cert.ReferenceRIdeal.main_v33) = v1 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2)
          ∧ r.2.mem ((c.tc : Thread Cert.ReferenceRIdeal.nD Cert.ReferenceRIdeal.τ).loc Cert.ReferenceRIdeal.main_arg3) = m' ((c.tc : Thread Cert.ReferenceRIdeal.nD Cert.ReferenceRIdeal.τ).loc Cert.ReferenceRIdeal.main_arg3))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)) →
    ∃ (v0 : (c : Dev Cert.KernelWIdeal.nD) → Buf (Elt Ideal) ((c.tc : Thread Cert.KernelWIdeal.nD Cert.KernelWIdeal.τ).loc Cert.KernelWIdeal.main_v0_0)) (v1 : (c : Dev Cert.KernelWIdeal.nD) → Buf (Elt Ideal) ((c.tc : Thread Cert.KernelWIdeal.nD Cert.KernelWIdeal.τ).loc Cert.KernelWIdeal.main_v0_1)) (v2 : (c : Dev Cert.KernelWIdeal.nD) → Buf (Elt Ideal) ((c.tc : Thread Cert.KernelWIdeal.nD Cert.KernelWIdeal.τ).loc Cert.KernelWIdeal.main_v0_2)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v0_0) = v0 c
          ∧ r.2.mem ((c.tc : Thread Cert.KernelWIdeal.nD Cert.KernelWIdeal.τ).loc Cert.KernelWIdeal.main_v0_1) = v1 c
          ∧ r.2.mem ((c.tc : Thread Cert.KernelWIdeal.nD Cert.KernelWIdeal.τ).loc Cert.KernelWIdeal.main_v0_2) = v2 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v12) = v0 c
          ∧ r.2.mem ((c.tc : Thread Cert.ReferenceWIdeal.nD Cert.ReferenceWIdeal.τ).loc Cert.ReferenceWIdeal.main_v9) = v1 c
          ∧ r.2.mem ((c.tc : Thread Cert.ReferenceWIdeal.nD Cert.ReferenceWIdeal.τ).loc Cert.ReferenceWIdeal.main_v6) = v2 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3))

def Claim : Prop :=
  ∃ (hKernelP : Cert.KernelP.Facts) (hKernelPIdeal : Cert.KernelPIdeal.Facts) (hReferencePIdeal : Cert.ReferencePIdeal.Facts) (hKernelR : Cert.KernelR.Facts) (hKernelRIdeal : Cert.KernelRIdeal.Facts) (hReferenceRIdeal : Cert.ReferenceRIdeal.Facts) (hKernelW : Cert.KernelW.Facts) (hKernelWIdeal : Cert.KernelWIdeal.Facts) (hReferenceWIdeal : Cert.ReferenceWIdeal.Facts),
    quiescent_KernelP (hKernelP := hKernelP)
    ∧ quiescent_KernelPIdeal (hKernelPIdeal := hKernelPIdeal)
    ∧ quiescent_ReferencePIdeal (hReferencePIdeal := hReferencePIdeal)
    ∧ quiescent_KernelR (hKernelR := hKernelR)
    ∧ quiescent_KernelRIdeal (hKernelRIdeal := hKernelRIdeal)
    ∧ quiescent_ReferenceRIdeal (hReferenceRIdeal := hReferenceRIdeal)
    ∧ quiescent_KernelW (hKernelW := hKernelW)
    ∧ quiescent_KernelWIdeal (hKernelWIdeal := hKernelWIdeal)
    ∧ quiescent_ReferenceWIdeal (hReferenceWIdeal := hReferenceWIdeal)
    ∧ preserves_KernelP_KernelPIdeal
    ∧ algebraic_KernelPIdeal_ReferencePIdeal (hKernelPIdeal := hKernelPIdeal) (hReferencePIdeal := hReferencePIdeal)
    ∧ preserves_KernelR_KernelRIdeal
    ∧ algebraic_KernelRIdeal_ReferenceRIdeal (hKernelRIdeal := hKernelRIdeal) (hReferenceRIdeal := hReferenceRIdeal)
    ∧ preserves_KernelW_KernelWIdeal
    ∧ algebraic_KernelWIdeal_ReferenceWIdeal (hKernelWIdeal := hKernelWIdeal) (hReferenceWIdeal := hReferenceWIdeal)
-- ==== KernelP.lean ====
abbrev S2x2048x16384 : Shape := ⟨3, ![2, 2048, 16384]⟩
abbrev S2x2048x8192 : Shape := ⟨3, ![2, 2048, 8192]⟩
abbrev S2x2048x128 : Shape := ⟨3, ![2, 2048, 128]⟩
abbrev S2x16384x256 : Shape := ⟨3, ![2, 16384, 256]⟩
abbrev S2x2048x256 : Shape := ⟨3, ![2, 2048, 256]⟩
abbrev S1x2048x1024 : Shape := ⟨3, ![1, 2048, 1024]⟩
abbrev S1x2048x512 : Shape := ⟨3, ![1, 2048, 512]⟩
abbrev S1x2048x128 : Shape := ⟨3, ![1, 2048, 128]⟩
abbrev S1x1024x256 : Shape := ⟨3, ![1, 1024, 256]⟩
abbrev S1x2048x256 : Shape := ⟨3, ![1, 2048, 256]⟩
abbrev S2048x1024 : Shape := ⟨2, ![2048, 1024]⟩
abbrev S1x512x128 : Shape := ⟨3, ![1, 512, 128]⟩
abbrev S512x128 : Shape := ⟨2, ![512, 128]⟩
abbrev S128x128 : Shape := ⟨2, ![128, 128]⟩
abbrev S128x128x1 : Shape := ⟨3, ![128, 128, 1]⟩
abbrev S512x1 : Shape := ⟨2, ![512, 1]⟩
abbrev S32x16x128 : Shape := ⟨3, ![32, 16, 128]⟩
abbrev S32x8x128 : Shape := ⟨3, ![32, 8, 128]⟩
abbrev S256x128 : Shape := ⟨2, ![256, 128]⟩
abbrev S512x1024 : Shape := ⟨2, ![512, 1024]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 5
  | .vmem => 11
  | .smem => 0
  | _ => 0

abbrev bufTy : (tb : Table) → Fin (tcTables nBuf tb) → BufTy
  | .hbm, ⟨0, _⟩ => ⟨S2x2048x16384, .bf16⟩
  | .hbm, ⟨1, _⟩ => ⟨S2x2048x8192, .i8⟩
  | .hbm, ⟨2, _⟩ => ⟨S2x2048x128, .f32⟩
  | .hbm, ⟨3, _⟩ => ⟨S2x16384x256, .bf16⟩
  | .hbm, ⟨4, _⟩ => ⟨S2x2048x256, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .i8⟩
  | .local _ .vmem, ⟨3, _⟩ => ⟨S1x2048x512, .i8⟩
  | .local _ .vmem, ⟨4, _⟩ => ⟨S1x2048x128, .f32⟩
  | .local _ .vmem, ⟨5, _⟩ => ⟨S1x2048x128, .f32⟩
  | .local _ .vmem, ⟨6, _⟩ => ⟨S1x1024x256, .bf16⟩
  | .local _ .vmem, ⟨7, _⟩ => ⟨S1x1024x256, .bf16⟩
  | .local _ .vmem, ⟨8, _⟩ => ⟨S1x2048x256, .f32⟩
  | .local _ .vmem, ⟨9, _⟩ => ⟨S1x2048x256, .f32⟩
  | .local _ .vmem, ⟨10, _⟩ => ⟨S2048x1024, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelPIdeal.lean ====
variable {F : FTy → Type} [FloatOps F]
-- ==== ReferencePIdeal.lean ====
abbrev S2x2048x16384 : Shape := ⟨3, ![2, 2048, 16384]⟩
abbrev S2x2048x8192 : Shape := ⟨3, ![2, 2048, 8192]⟩
abbrev S2x2048x128 : Shape := ⟨3, ![2, 2048, 128]⟩
abbrev S2x16384x256 : Shape := ⟨3, ![2, 16384, 256]⟩
abbrev S_ : Shape := ⟨0, ![]⟩
abbrev S2x2048x8192x1 : Shape := ⟨4, ![2, 2048, 8192, 1]⟩
abbrev S2x2048x8192x2 : Shape := ⟨4, ![2, 2048, 8192, 2]⟩
abbrev S2x2048x128x128 : Shape := ⟨4, ![2, 2048, 128, 128]⟩
abbrev S2x2048x128x1 : Shape := ⟨4, ![2, 2048, 128, 1]⟩
abbrev S2x2048x256 : Shape := ⟨3, ![2, 2048, 256]⟩
abbrev S2x128x2x8x256 : Shape := ⟨5, ![2, 128, 2, 8, 256]⟩
abbrev S2x128x8x2x256 : Shape := ⟨5, ![2, 128, 8, 2, 256]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x16384, .bf16⟩
  | .hbm, ⟨1, _⟩ => ⟨S2x2048x8192, .i8⟩
  | .hbm, ⟨2, _⟩ => ⟨S2x2048x128, .f32⟩
  | .hbm, ⟨3, _⟩ => ⟨S2x16384x256, .bf16⟩
  | .hbm, ⟨4, _⟩ => ⟨S2x2048x8192, .i32⟩
  | .hbm, ⟨5, _⟩ => ⟨S_, .i32⟩
  | .hbm, ⟨6, _⟩ => ⟨S2x2048x8192, .i32⟩
  | .hbm, ⟨7, _⟩ => ⟨S2x2048x8192, .i32⟩
  | .hbm, ⟨8, _⟩ => ⟨S_, .i32⟩
  | .hbm, ⟨9, _⟩ => ⟨S2x2048x8192, .i32⟩
  | .hbm, ⟨10, _⟩ => ⟨S2x2048x8192, .i32⟩
  | .hbm, ⟨11, _⟩ => ⟨S_, .i32⟩
  | .hbm, ⟨12, _⟩ => ⟨S2x2048x8192, .i32⟩
  | .hbm, ⟨13, _⟩ => ⟨S2x2048x8192, .i1⟩
  | .hbm, ⟨14, _⟩ => ⟨S_, .i32⟩
  | .hbm, ⟨15, _⟩ => ⟨S2x2048x8192, .i32⟩
  | .hbm, ⟨16, _⟩ => ⟨S2x2048x8192, .i32⟩
  | .hbm, ⟨17, _⟩ => ⟨S2x2048x8192, .i32⟩
  | .hbm, ⟨18, _⟩ => ⟨S_, .i32⟩
  | .hbm, ⟨19, _⟩ => ⟨S2x2048x8192, .i32⟩
  | .hbm, ⟨20, _⟩ => ⟨S2x2048x8192, .i1⟩
  | .hbm, ⟨21, _⟩ => ⟨S_, .i32⟩
  | .hbm, ⟨22, _⟩ => ⟨S2x2048x8192, .i32⟩
  | .hbm, ⟨23, _⟩ => ⟨S2x2048x8192, .i32⟩
  | .hbm, ⟨24, _⟩ => ⟨S2x2048x8192, .i32⟩
  | .hbm, ⟨25, _⟩ => ⟨S2x2048x8192x1, .i32⟩
  | .hbm, ⟨26, _⟩ => ⟨S2x2048x8192x1, .i32⟩
  | .hbm, ⟨27, _⟩ => ⟨S2x2048x8192x2, .i32⟩
  | .hbm, ⟨28, _⟩ => ⟨S2x2048x16384, .i32⟩
  | .hbm, ⟨29, _⟩ => ⟨S2x2048x16384, .f32⟩
  | .hbm, ⟨30, _⟩ => ⟨S2x2048x128x128, .f32⟩
  | .hbm, ⟨31, _⟩ => ⟨S2x2048x128x1, .f32⟩
  | .hbm, ⟨32, _⟩ => ⟨S2x2048x128x128, .f32⟩
  | .hbm, ⟨33, _⟩ => ⟨S2x2048x128x128, .f32⟩
  | .hbm, ⟨34, _⟩ => ⟨S2x2048x16384, .f32⟩
  | .hbm, ⟨35, _⟩ => ⟨S2x2048x16384, .f32⟩
  | .hbm, ⟨36, _⟩ => ⟨S2x2048x16384, .f32⟩
  | .hbm, ⟨37, _⟩ => ⟨S2x2048x16384, .bf16⟩
  | .hbm, ⟨38, _⟩ => ⟨S2x2048x256, .f32⟩
  | .hbm, ⟨39, _⟩ => ⟨S2x128x2x8x256, .f32⟩
  | .hbm, ⟨40, _⟩ => ⟨S2x128x8x2x256, .f32⟩
  | .hbm, ⟨41, _⟩ => ⟨S2x2048x256, .f32⟩
  | _, _ => ⟨S2x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== KernelR.lean ====
abbrev S2x2048x16384 : Shape := ⟨3, ![2, 2048, 16384]⟩
abbrev S2x2048x8192 : Shape := ⟨3, ![2, 2048, 8192]⟩
abbrev S2x2048x128 : Shape := ⟨3, ![2, 2048, 128]⟩
abbrev S2x2048x256 : Shape := ⟨3, ![2, 2048, 256]⟩
abbrev S2x128x2x8x256 : Shape := ⟨5, ![2, 128, 2, 8, 256]⟩
abbrev S2x128x8x2x256 : Shape := ⟨5, ![2, 128, 8, 2, 256]⟩
abbrev S2x256x2048 : Shape := ⟨3, ![2, 256, 2048]⟩
abbrev S2x256x16384 : Shape := ⟨3, ![2, 256, 16384]⟩
abbrev S2x256x128 : Shape := ⟨3, ![2, 256, 128]⟩
abbrev S1x2048x512 : Shape := ⟨3, ![1, 2048, 512]⟩
abbrev S1x2048x256 : Shape := ⟨3, ![1, 2048, 256]⟩
abbrev S1x2048x128 : Shape := ⟨3, ![1, 2048, 128]⟩
abbrev S1x256x2048 : Shape := ⟨3, ![1, 256, 2048]⟩
abbrev S1x256x512 : Shape := ⟨3, ![1, 256, 512]⟩
abbrev S1x256x128 : Shape := ⟨3, ![1, 256, 128]⟩
abbrev S2048x512 : Shape := ⟨2, ![2048, 512]⟩
abbrev S2x2048x512 : Shape := ⟨3, ![2, 2048, 512]⟩
abbrev S2x256x512 : Shape := ⟨3, ![2, 256, 512]⟩
abbrev S256x512 : Shape := ⟨2, ![256, 512]⟩
abbrev S256x128 : Shape := ⟨2, ![256, 128]⟩
abbrev S2048x128 : Shape := ⟨2, ![2048, 128]⟩
abbrev S64x128 : Shape := ⟨2, ![64, 128]⟩
abbrev S64x128x1 : Shape := ⟨3, ![64, 128, 1]⟩
abbrev S256x1 : Shape := ⟨2, ![256, 1]⟩
abbrev S16x16x128 : Shape := ⟨3, ![16, 16, 128]⟩
abbrev S16x8x128 : Shape := ⟨3, ![16, 8, 128]⟩
abbrev S128x128 : Shape := ⟨2, ![128, 128]⟩
abbrev S1x256x256 : Shape := ⟨3, ![1, 256, 256]⟩
abbrev S256x256 : Shape := ⟨2, ![256, 256]⟩
abbrev S256 : Shape := ⟨1, ![256]⟩
abbrev S256x2048 : Shape := ⟨2, ![256, 2048]⟩

abbrev nBuf : Space → Nat
  | .hbm => 12
  | .vmem => 21
  | .smem => 0
  | _ => 0

abbrev bufTy : (tb : Table) → Fin (tcTables nBuf tb) → BufTy
  | .hbm, ⟨0, _⟩ => ⟨S2x2048x16384, .bf16⟩
  | .hbm, ⟨1, _⟩ => ⟨S2x2048x8192, .i8⟩
  | .hbm, ⟨2, _⟩ => ⟨S2x2048x128, .f32⟩
  | .hbm, ⟨3, _⟩ => ⟨S2x2048x256, .bf16⟩
  | .hbm, ⟨4, _⟩ => ⟨S2x128x2x8x256, .bf16⟩
  | .hbm, ⟨5, _⟩ => ⟨S2x128x8x2x256, .bf16⟩
  | .hbm, ⟨6, _⟩ => ⟨S2x2048x256, .bf16⟩
  | .hbm, ⟨7, _⟩ => ⟨S2x256x2048, .bf16⟩
  | .hbm, ⟨8, _⟩ => ⟨S2x256x16384, .f32⟩
  | .hbm, ⟨9, _⟩ => ⟨S2x256x128, .f32⟩
  | .hbm, ⟨10, _⟩ => ⟨S2x2048x8192, .i8⟩
  | .hbm, ⟨11, _⟩ => ⟨S2x2048x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .i8⟩
  | .local _ .vmem, ⟨3, _⟩ => ⟨S1x2048x256, .i8⟩
  | .local _ .vmem, ⟨4, _⟩ => ⟨S1x2048x128, .f32⟩
  | .local _ .vmem, ⟨5, _⟩ => ⟨S1x2048x128, .f32⟩
  | .local _ .vmem, ⟨6, _⟩ => ⟨S1x2048x256, .bf16⟩
  | .local _ .vmem, ⟨7, _⟩ => ⟨S1x2048x256, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x512, .f32⟩
  | .local _ .vmem, ⟨11, _⟩ => ⟨S1x256x512, .f32⟩
  | .local _ .vmem, ⟨12, _⟩ => ⟨S1x256x128, .f32⟩
  | .local _ .vmem, ⟨13, _⟩ => ⟨S1x256x128, .f32⟩
  | .local _ .vmem, ⟨14, _⟩ => ⟨S1x2048x256, .i8⟩
  | .local _ .vmem, ⟨15, _⟩ => ⟨S1x2048x256, .i8⟩
  | .local _ .vmem, ⟨16, _⟩ => ⟨S1x2048x128, .f32⟩
  | .local _ .vmem, ⟨17, _⟩ => ⟨S1x2048x128, .f32⟩
  | .local _ .vmem, ⟨18, _⟩ => ⟨S2048x512, .bf16⟩
  | .local _ .vmem, ⟨19, _⟩ => ⟨S2x2048x512, .f32⟩
  | .local _ .vmem, ⟨20, _⟩ => ⟨S2x256x512, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨2, ![2, 33], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3467 : Index := Scalar.indexCast v1
  let c0_1358 : Index := 0#32
  let c0_1359 : Index := 0#32
  ![v3467.toNat, 0, 0]
def k0_off2 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3472 : Index := Scalar.indexCast v1
  let c0_1361 : Index := 0#32
  let c0_1362 : Index := 0#32
  ![v3472.toNat, 0, 0]
def k0_off3 (i : grid0.Coords) : Fin 3 → Nat :=
  let arg1 : BitVec 32 := BitVec.ofNat 32 (i 1).val
  let c2_i32 : BitVec 32 := 2#32
  let v0 : BitVec 32 := Scalar.remsi arg1 c2_i32
  let v71 : Index := Scalar.indexCast v0
  let c0_26 : Index := 0#32
  let c0_27 : Index := 0#32
  ![v71.toNat, 0, 0]
def k0_off4 (i : grid0.Coords) : Fin 3 → Nat :=
  let arg1 : BitVec 32 := BitVec.ofNat 32 (i 1).val
  let c2_i32 : BitVec 32 := 2#32
  let v0 : BitVec 32 := Scalar.remsi arg1 c2_i32
  let v118 : Index := Scalar.indexCast v0
  let c0_40 : Index := 0#32
  let c128_41 : Index := 128#32
  ![v118.toNat, 0, 128]
def k0_off5 (i : grid0.Coords) : Fin 3 → Nat :=
  let arg1 : BitVec 32 := BitVec.ofNat 32 (i 1).val
  let c2_i32 : BitVec 32 := 2#32
  let v0 : BitVec 32 := Scalar.remsi arg1 c2_i32
  let v167 : Index := Scalar.indexCast v0
  let c0_57 : Index := 0#32
  let c256_58 : Index := 256#32
  ![v167.toNat, 0, 256]
def k0_off6 (i : grid0.Coords) : Fin 3 → Nat :=
  let arg1 : BitVec 32 := BitVec.ofNat 32 (i 1).val
  let c2_i32 : BitVec 32 := 2#32
  let v0 : BitVec 32 := Scalar.remsi arg1 c2_i32
  let v214 : Index := Scalar.indexCast v0
  let c0_71 : Index := 0#32
  let c384_72 : Index := 384#32
  ![v214.toNat, 0, 384]
def k0_off7 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v230 : Index := Scalar.indexCast v1
  let c0_78 : Index := 0#32
  let c0_79 : Index := 0#32
  ![v230.toNat, 0, 0]
def k0_off8 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v234 : Index := Scalar.indexCast v1
  let c0_80 : Index := 0#32
  let c0_81 : Index := 0#32
  ![v234.toNat, 0, 0]
def k0_off9 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v273 : Index := Scalar.indexCast v1
  let c0_93 : Index := 0#32
  let c128_94 : Index := 128#32
  ![v273.toNat, 0, 128]
def k0_off10 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v341 : Index := Scalar.indexCast v1
  let c0_120 : Index := 0#32
  let c256_121 : Index := 256#32
  ![v341.toNat, 0, 256]
def k0_off11 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v380 : Index := Scalar.indexCast v1
  let c0_135 : Index := 0#32
  let c384_136 : Index := 384#32
  ![v380.toNat, 0, 384]
def k0_off12 (i : grid0.Coords) : Fin 3 → Nat :=
  let arg1 : BitVec 32 := BitVec.ofNat 32 (i 1).val
  let c2_i32 : BitVec 32 := 2#32
  let v0 : BitVec 32 := Scalar.remsi arg1 c2_i32
  let v498 : Index := Scalar.indexCast v0
  let c256_187 : Index := 256#32
  let c0_188 : Index := 0#32
  ![v498.toNat, 256, 0]
def k0_off13 (i : grid0.Coords) : Fin 3 → Nat :=
  let arg1 : BitVec 32 := BitVec.ofNat 32 (i 1).val
  let c2_i32 : BitVec 32 := 2#32
  let v0 : BitVec 32 := Scalar.remsi arg1 c2_i32
  let v545 : Index := Scalar.indexCast v0
  let c256_202 : Index := 256#32
  let c128_203 : Index := 128#32
  ![v545.toNat, 256, 128]
def k0_off14 (i : grid0.Coords) : Fin 3 → Nat :=
  let arg1 : BitVec 32 := BitVec.ofNat 32 (i 1).val
  let c2_i32 : BitVec 32 := 2#32
  let v0 : BitVec 32 := Scalar.remsi arg1 c2_i32
  let v594 : Index := Scalar.indexCast v0
  let c256_220 : Index := 256#32
  let c256_221 : Index := 256#32
  ![v594.toNat, 256, 256]
def k0_off15 (i : grid0.Coords) : Fin 3 → Nat :=
  let arg1 : BitVec 32 := BitVec.ofNat 32 (i 1).val
  let c2_i32 : BitVec 32 := 2#32
  let v0 : BitVec 32 := Scalar.remsi arg1 c2_i32
  let v641 : Index := Scalar.indexCast v0
  let c256_235 : Index := 256#32
  let c384_236 : Index := 384#32
  ![v641.toNat, 256, 384]
def k0_off16 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v661 : Index := Scalar.indexCast v1
  let c256_245 : Index := 256#32
  let c0_246 : Index := 0#32
  ![v661.toNat, 256, 0]
def k0_off17 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v700 : Index := Scalar.indexCast v1
  let c256_260 : Index := 256#32
  let c128_261 : Index := 128#32
  ![v700.toNat, 256, 128]
def k0_off18 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v768 : Index := Scalar.indexCast v1
  let c256_288 : Index := 256#32
  let c256_289 : Index := 256#32
  ![v768.toNat, 256, 256]
def k0_off19 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v807 : Index := Scalar.indexCast v1
  let c256_303 : Index := 256#32
  let c384_304 : Index := 384#32
  ![v807.toNat, 256, 384]
def k0_off20 (i : grid0.Coords) : Fin 3 → Nat :=
  let arg1 : BitVec 32 := BitVec.ofNat 32 (i 1).val
  let c2_i32 : BitVec 32 := 2#32
  let v0 : BitVec 32 := Scalar.remsi arg1 c2_i32
  let v925 : Index := Scalar.indexCast v0
  let c512_355 : Index := 512#32
  let c0_356 : Index := 0#32
  ![v925.toNat, 512, 0]
def k0_off21 (i : grid0.Coords) : Fin 3 → Nat :=
  let arg1 : BitVec 32 := BitVec.ofNat 32 (i 1).val
  let c2_i32 : BitVec 32 := 2#32
  let v0 : BitVec 32 := Scalar.remsi arg1 c2_i32
  let v972 : Index := Scalar.indexCast v0
  let c512_370 : Index := 512#32
  let c128_371 : Index := 128#32
  ![v972.toNat, 512, 128]
def k0_off22 (i : grid0.Coords) : Fin 3 → Nat :=
  let arg1 : BitVec 32 := BitVec.ofNat 32 (i 1).val
  let c2_i32 : BitVec 32 := 2#32
  let v0 : BitVec 32 := Scalar.remsi arg1 c2_i32
  let v1021 : Index := Scalar.indexCast v0
  let c512_388 : Index := 512#32
  let c256_389 : Index := 256#32
  ![v1021.toNat, 512, 256]
def k0_off23 (i : grid0.Coords) : Fin 3 → Nat :=
  let arg1 : BitVec 32 := BitVec.ofNat 32 (i 1).val
  let c2_i32 : BitVec 32 := 2#32
  let v0 : BitVec 32 := Scalar.remsi arg1 c2_i32
  let v1068 : Index := Scalar.indexCast v0
  let c512_403 : Index := 512#32
  let c384_404 : Index := 384#32
  ![v1068.toNat, 512, 384]
def k0_off24 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1088 : Index := Scalar.indexCast v1
  let c512_413 : Index := 512#32
  let c0_414 : Index := 0#32
  ![v1088.toNat, 512, 0]
def k0_off25 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1127 : Index := Scalar.indexCast v1
  let c512_428 : Index := 512#32
  let c128_429 : Index := 128#32
  ![v1127.toNat, 512, 128]
def k0_off26 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1195 : Index := Scalar.indexCast v1
  let c512_456 : Index := 512#32
  let c256_457 : Index := 256#32
  ![v1195.toNat, 512, 256]
def k0_off27 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1234 : Index := Scalar.indexCast v1
  let c512_471 : Index := 512#32
  let c384_472 : Index := 384#32
  ![v1234.toNat, 512, 384]
def k0_off28 (i : grid0.Coords) : Fin 3 → Nat :=
  let arg1 : BitVec 32 := BitVec.ofNat 32 (i 1).val
  let c2_i32 : BitVec 32 := 2#32
  let v0 : BitVec 32 := Scalar.remsi arg1 c2_i32
  let v1352 : Index := Scalar.indexCast v0
  let c768_523 : Index := 768#32
  let c0_524 : Index := 0#32
  ![v1352.toNat, 768, 0]
def k0_off29 (i : grid0.Coords) : Fin 3 → Nat :=
  let arg1 : BitVec 32 := BitVec.ofNat 32 (i 1).val
  let c2_i32 : BitVec 32 := 2#32
  let v0 : BitVec 32 := Scalar.remsi arg1 c2_i32
  let v1399 : Index := Scalar.indexCast v0
  let c768_538 : Index := 768#32
  let c128_539 : Index := 128#32
  ![v1399.toNat, 768, 128]
def k0_off30 (i : grid0.Coords) : Fin 3 → Nat :=
  let arg1 : BitVec 32 := BitVec.ofNat 32 (i 1).val
  let c2_i32 : BitVec 32 := 2#32
  let v0 : BitVec 32 := Scalar.remsi arg1 c2_i32
  let v1448 : Index := Scalar.indexCast v0
  let c768_556 : Index := 768#32
  let c256_557 : Index := 256#32
  ![v1448.toNat, 768, 256]
def k0_off31 (i : grid0.Coords) : Fin 3 → Nat :=
  let arg1 : BitVec 32 := BitVec.ofNat 32 (i 1).val
  let c2_i32 : BitVec 32 := 2#32
  let v0 : BitVec 32 := Scalar.remsi arg1 c2_i32
  let v1495 : Index := Scalar.indexCast v0
  let c768_571 : Index := 768#32
  let c384_572 : Index := 384#32
  ![v1495.toNat, 768, 384]
def k0_off32 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1515 : Index := Scalar.indexCast v1
  let c768_581 : Index := 768#32
  let c0_582 : Index := 0#32
  ![v1515.toNat, 768, 0]
def k0_off33 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1554 : Index := Scalar.indexCast v1
  let c768_596 : Index := 768#32
  let c128_597 : Index := 128#32
  ![v1554.toNat, 768, 128]
def k0_off34 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1622 : Index := Scalar.indexCast v1
  let c768_624 : Index := 768#32
  let c256_625 : Index := 256#32
  ![v1622.toNat, 768, 256]
def k0_off35 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1661 : Index := Scalar.indexCast v1
  let c768_639 : Index := 768#32
  let c384_640 : Index := 384#32
  ![v1661.toNat, 768, 384]
def k0_off36 (i : grid0.Coords) : Fin 3 → Nat :=
  let arg1 : BitVec 32 := BitVec.ofNat 32 (i 1).val
  let c2_i32 : BitVec 32 := 2#32
  let v0 : BitVec 32 := Scalar.remsi arg1 c2_i32
  let v1779 : Index := Scalar.indexCast v0
  let c1024_691 : Index := 1024#32
  let c0_692 : Index := 0#32
  ![v1779.toNat, 1024, 0]
def k0_off37 (i : grid0.Coords) : Fin 3 → Nat :=
  let arg1 : BitVec 32 := BitVec.ofNat 32 (i 1).val
  let c2_i32 : BitVec 32 := 2#32
  let v0 : BitVec 32 := Scalar.remsi arg1 c2_i32
  let v1826 : Index := Scalar.indexCast v0
  let c1024_706 : Index := 1024#32
  let c128_707 : Index := 128#32
  ![v1826.toNat, 1024, 128]
def k0_off38 (i : grid0.Coords) : Fin 3 → Nat :=
  let arg1 : BitVec 32 := BitVec.ofNat 32 (i 1).val
  let c2_i32 : BitVec 32 := 2#32
  let v0 : BitVec 32 := Scalar.remsi arg1 c2_i32
  let v1875 : Index := Scalar.indexCast v0
  let c1024_724 : Index := 1024#32
  let c256_725 : Index := 256#32
  ![v1875.toNat, 1024, 256]
def k0_off39 (i : grid0.Coords) : Fin 3 → Nat :=
  let arg1 : BitVec 32 := BitVec.ofNat 32 (i 1).val
  let c2_i32 : BitVec 32 := 2#32
  let v0 : BitVec 32 := Scalar.remsi arg1 c2_i32
  let v1922 : Index := Scalar.indexCast v0
  let c1024_739 : Index := 1024#32
  let c384_740 : Index := 384#32
  ![v1922.toNat, 1024, 384]
def k0_off40 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1942 : Index := Scalar.indexCast v1
  let c1024_749 : Index := 1024#32
  let c0_750 : Index := 0#32
  ![v1942.toNat, 1024, 0]
def k0_off41 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v1981 : Index := Scalar.indexCast v1
  let c1024_764 : Index := 1024#32
  let c128_765 : Index := 128#32
  ![v1981.toNat, 1024, 128]
def k0_off42 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2049 : Index := Scalar.indexCast v1
  let c1024_792 : Index := 1024#32
  let c256_793 : Index := 256#32
  ![v2049.toNat, 1024, 256]
def k0_off43 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2088 : Index := Scalar.indexCast v1
  let c1024_807 : Index := 1024#32
  let c384_808 : Index := 384#32
  ![v2088.toNat, 1024, 384]
def k0_off44 (i : grid0.Coords) : Fin 3 → Nat :=
  let arg1 : BitVec 32 := BitVec.ofNat 32 (i 1).val
  let c2_i32 : BitVec 32 := 2#32
  let v0 : BitVec 32 := Scalar.remsi arg1 c2_i32
  let v2206 : Index := Scalar.indexCast v0
  let c1280_859 : Index := 1280#32
  let c0_860 : Index := 0#32
  ![v2206.toNat, 1280, 0]
def k0_off45 (i : grid0.Coords) : Fin 3 → Nat :=
  let arg1 : BitVec 32 := BitVec.ofNat 32 (i 1).val
  let c2_i32 : BitVec 32 := 2#32
  let v0 : BitVec 32 := Scalar.remsi arg1 c2_i32
  let v2253 : Index := Scalar.indexCast v0
  let c1280_874 : Index := 1280#32
  let c128_875 : Index := 128#32
  ![v2253.toNat, 1280, 128]
def k0_off46 (i : grid0.Coords) : Fin 3 → Nat :=
  let arg1 : BitVec 32 := BitVec.ofNat 32 (i 1).val
  let c2_i32 : BitVec 32 := 2#32
  let v0 : BitVec 32 := Scalar.remsi arg1 c2_i32
  let v2302 : Index := Scalar.indexCast v0
  let c1280_892 : Index := 1280#32
  let c256_893 : Index := 256#32
  ![v2302.toNat, 1280, 256]
def k0_off47 (i : grid0.Coords) : Fin 3 → Nat :=
  let arg1 : BitVec 32 := BitVec.ofNat 32 (i 1).val
  let c2_i32 : BitVec 32 := 2#32
  let v0 : BitVec 32 := Scalar.remsi arg1 c2_i32
  let v2349 : Index := Scalar.indexCast v0
  let c1280_907 : Index := 1280#32
  let c384_908 : Index := 384#32
  ![v2349.toNat, 1280, 384]
def k0_off48 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2369 : Index := Scalar.indexCast v1
  let c1280_917 : Index := 1280#32
  let c0_918 : Index := 0#32
  ![v2369.toNat, 1280, 0]
def k0_off49 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2408 : Index := Scalar.indexCast v1
  let c1280_932 : Index := 1280#32
  let c128_933 : Index := 128#32
  ![v2408.toNat, 1280, 128]
def k0_off50 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2476 : Index := Scalar.indexCast v1
  let c1280_960 : Index := 1280#32
  let c256_961 : Index := 256#32
  ![v2476.toNat, 1280, 256]
def k0_off51 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2515 : Index := Scalar.indexCast v1
  let c1280_975 : Index := 1280#32
  let c384_976 : Index := 384#32
  ![v2515.toNat, 1280, 384]
def k0_off52 (i : grid0.Coords) : Fin 3 → Nat :=
  let arg1 : BitVec 32 := BitVec.ofNat 32 (i 1).val
  let c2_i32 : BitVec 32 := 2#32
  let v0 : BitVec 32 := Scalar.remsi arg1 c2_i32
  let v2633 : Index := Scalar.indexCast v0
  let c1536_1027 : Index := 1536#32
  let c0_1028 : Index := 0#32
  ![v2633.toNat, 1536, 0]
def k0_off53 (i : grid0.Coords) : Fin 3 → Nat :=
  let arg1 : BitVec 32 := BitVec.ofNat 32 (i 1).val
  let c2_i32 : BitVec 32 := 2#32
  let v0 : BitVec 32 := Scalar.remsi arg1 c2_i32
  let v2680 : Index := Scalar.indexCast v0
  let c1536_1042 : Index := 1536#32
  let c128_1043 : Index := 128#32
  ![v2680.toNat, 1536, 128]
def k0_off54 (i : grid0.Coords) : Fin 3 → Nat :=
  let arg1 : BitVec 32 := BitVec.ofNat 32 (i 1).val
  let c2_i32 : BitVec 32 := 2#32
  let v0 : BitVec 32 := Scalar.remsi arg1 c2_i32
  let v2729 : Index := Scalar.indexCast v0
  let c1536_1060 : Index := 1536#32
  let c256_1061 : Index := 256#32
  ![v2729.toNat, 1536, 256]
def k0_off55 (i : grid0.Coords) : Fin 3 → Nat :=
  let arg1 : BitVec 32 := BitVec.ofNat 32 (i 1).val
  let c2_i32 : BitVec 32 := 2#32
  let v0 : BitVec 32 := Scalar.remsi arg1 c2_i32
  let v2776 : Index := Scalar.indexCast v0
  let c1536_1075 : Index := 1536#32
  let c384_1076 : Index := 384#32
  ![v2776.toNat, 1536, 384]
def k0_off56 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2796 : Index := Scalar.indexCast v1
  let c1536_1085 : Index := 1536#32
  let c0_1086 : Index := 0#32
  ![v2796.toNat, 1536, 0]
def k0_off57 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2835 : Index := Scalar.indexCast v1
  let c1536_1100 : Index := 1536#32
  let c128_1101 : Index := 128#32
  ![v2835.toNat, 1536, 128]
def k0_off58 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2903 : Index := Scalar.indexCast v1
  let c1536_1128 : Index := 1536#32
  let c256_1129 : Index := 256#32
  ![v2903.toNat, 1536, 256]
def k0_off59 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v2942 : Index := Scalar.indexCast v1
  let c1536_1143 : Index := 1536#32
  let c384_1144 : Index := 384#32
  ![v2942.toNat, 1536, 384]
def k0_off60 (i : grid0.Coords) : Fin 3 → Nat :=
  let arg1 : BitVec 32 := BitVec.ofNat 32 (i 1).val
  let c2_i32 : BitVec 32 := 2#32
  let v0 : BitVec 32 := Scalar.remsi arg1 c2_i32
  let v3060 : Index := Scalar.indexCast v0
  let c1792_1195 : Index := 1792#32
  let c0_1196 : Index := 0#32
  ![v3060.toNat, 1792, 0]
def k0_off61 (i : grid0.Coords) : Fin 3 → Nat :=
  let arg1 : BitVec 32 := BitVec.ofNat 32 (i 1).val
  let c2_i32 : BitVec 32 := 2#32
  let v0 : BitVec 32 := Scalar.remsi arg1 c2_i32
  let v3107 : Index := Scalar.indexCast v0
  let c1792_1210 : Index := 1792#32
  let c128_1211 : Index := 128#32
  ![v3107.toNat, 1792, 128]
def k0_off62 (i : grid0.Coords) : Fin 3 → Nat :=
  let arg1 : BitVec 32 := BitVec.ofNat 32 (i 1).val
  let c2_i32 : BitVec 32 := 2#32
  let v0 : BitVec 32 := Scalar.remsi arg1 c2_i32
  let v3156 : Index := Scalar.indexCast v0
  let c1792_1228 : Index := 1792#32
  let c256_1229 : Index := 256#32
  ![v3156.toNat, 1792, 256]
def k0_off63 (i : grid0.Coords) : Fin 3 → Nat :=
  let arg1 : BitVec 32 := BitVec.ofNat 32 (i 1).val
  let c2_i32 : BitVec 32 := 2#32
  let v0 : BitVec 32 := Scalar.remsi arg1 c2_i32
  let v3203 : Index := Scalar.indexCast v0
  let c1792_1243 : Index := 1792#32
  let c384_1244 : Index := 384#32
  ![v3203.toNat, 1792, 384]
def k0_off64 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3223 : Index := Scalar.indexCast v1
  let c1792_1253 : Index := 1792#32
  let c0_1254 : Index := 0#32
  ![v3223.toNat, 1792, 0]
def k0_off65 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3262 : Index := Scalar.indexCast v1
  let c1792_1268 : Index := 1792#32
  let c128_1269 : Index := 128#32
  ![v3262.toNat, 1792, 128]
def k0_off66 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3330 : Index := Scalar.indexCast v1
  let c1792_1296 : Index := 1792#32
  let c256_1297 : Index := 256#32
  ![v3330.toNat, 1792, 256]
def k0_off67 (i : grid0.Coords) : Fin 3 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v3369 : Index := Scalar.indexCast v1
  let c1792_1311 : Index := 1792#32
  let c384_1312 : Index := 384#32
  ![v3369.toNat, 1792, 384]
def k0_off68 (i : grid0.Coords) : Fin 3 → Nat :=
  let arg1 : BitVec 32 := BitVec.ofNat 32 (i 1).val
  let c2_i32 : BitVec 32 := 2#32
  let v0 : BitVec 32 := Scalar.remsi arg1 c2_i32
  let v3445 : Index := Scalar.indexCast v0
  let c0_1348 : Index := 0#32
  let c0_1349 : Index := 0#32
  ![v3445.toNat, 0, 0]
def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelRIdeal.lean ====
variable {F : FTy → Type} [FloatOps F]
-- ==== ReferenceRIdeal.lean ====
abbrev S2x2048x16384 : Shape := ⟨3, ![2, 2048, 16384]⟩
abbrev S2x2048x8192 : Shape := ⟨3, ![2, 2048, 8192]⟩
abbrev S2x2048x128 : Shape := ⟨3, ![2, 2048, 128]⟩
abbrev S2x2048x256 : Shape := ⟨3, ![2, 2048, 256]⟩
abbrev S_ : Shape := ⟨0, ![]⟩
abbrev S2x2048x8192x1 : Shape := ⟨4, ![2, 2048, 8192, 1]⟩
abbrev S2x2048x8192x2 : Shape := ⟨4, ![2, 2048, 8192, 2]⟩
abbrev S2x2048x128x128 : Shape := ⟨4, ![2, 2048, 128, 128]⟩
abbrev S2x2048x128x1 : Shape := ⟨4, ![2, 2048, 128, 1]⟩
abbrev S2x16384x256 : Shape := ⟨3, ![2, 16384, 256]⟩
abbrev S2x128x128x256 : Shape := ⟨4, ![2, 128, 128, 256]⟩
abbrev S2x128x256 : Shape := ⟨3, ![2, 128, 256]⟩
abbrev S2x256x16384 : Shape := ⟨3, ![2, 256, 16384]⟩
abbrev S2x256x128 : Shape := ⟨3, ![2, 256, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x16384, .bf16⟩
  | .hbm, ⟨1, _⟩ => ⟨S2x2048x8192, .i8⟩
  | .hbm, ⟨2, _⟩ => ⟨S2x2048x128, .f32⟩
  | .hbm, ⟨3, _⟩ => ⟨S2x2048x256, .bf16⟩
  | .hbm, ⟨4, _⟩ => ⟨S2x2048x8192, .i32⟩
  | .hbm, ⟨5, _⟩ => ⟨S_, .i32⟩
  | .hbm, ⟨6, _⟩ => ⟨S2x2048x8192, .i32⟩
  | .hbm, ⟨7, _⟩ => ⟨S2x2048x8192, .i32⟩
  | .hbm, ⟨8, _⟩ => ⟨S_, .i32⟩
  | .hbm, ⟨9, _⟩ => ⟨S2x2048x8192, .i32⟩
  | .hbm, ⟨10, _⟩ => ⟨S2x2048x8192, .i32⟩
  | .hbm, ⟨11, _⟩ => ⟨S_, .i32⟩
  | .hbm, ⟨12, _⟩ => ⟨S2x2048x8192, .i32⟩
  | .hbm, ⟨13, _⟩ => ⟨S2x2048x8192, .i1⟩
  | .hbm, ⟨14, _⟩ => ⟨S_, .i32⟩
  | .hbm, ⟨15, _⟩ => ⟨S2x2048x8192, .i32⟩
  | .hbm, ⟨16, _⟩ => ⟨S2x2048x8192, .i32⟩
  | .hbm, ⟨17, _⟩ => ⟨S2x2048x8192, .i32⟩
  | .hbm, ⟨18, _⟩ => ⟨S_, .i32⟩
  | .hbm, ⟨19, _⟩ => ⟨S2x2048x8192, .i32⟩
  | .hbm, ⟨20, _⟩ => ⟨S2x2048x8192, .i1⟩
  | .hbm, ⟨21, _⟩ => ⟨S_, .i32⟩
  | .hbm, ⟨22, _⟩ => ⟨S2x2048x8192, .i32⟩
  | .hbm, ⟨23, _⟩ => ⟨S2x2048x8192, .i32⟩
  | .hbm, ⟨24, _⟩ => ⟨S2x2048x8192, .i32⟩
  | .hbm, ⟨25, _⟩ => ⟨S2x2048x8192x1, .i32⟩
  | .hbm, ⟨26, _⟩ => ⟨S2x2048x8192x1, .i32⟩
  | .hbm, ⟨27, _⟩ => ⟨S2x2048x8192x2, .i32⟩
  | .hbm, ⟨28, _⟩ => ⟨S2x2048x16384, .i32⟩
  | .hbm, ⟨29, _⟩ => ⟨S2x2048x16384, .f32⟩
  | .hbm, ⟨30, _⟩ => ⟨S2x2048x128x128, .f32⟩
  | .hbm, ⟨31, _⟩ => ⟨S2x2048x128x1, .f32⟩
  | .hbm, ⟨32, _⟩ => ⟨S2x2048x128x128, .f32⟩
  | .hbm, ⟨33, _⟩ => ⟨S2x2048x128x128, .f32⟩
  | .hbm, ⟨34, _⟩ => ⟨S2x2048x16384, .f32⟩
  | .hbm, ⟨35, _⟩ => ⟨S2x2048x16384, .f32⟩
  | .hbm, ⟨36, _⟩ => ⟨S2x2048x16384, .f32⟩
  | .hbm, ⟨37, _⟩ => ⟨S2x2048x16384, .bf16⟩
  | .hbm, ⟨38, _⟩ => ⟨S2x16384x256, .f32⟩
  | .hbm, ⟨39, _⟩ => ⟨S2x16384x256, .f32⟩
  | .hbm, ⟨40, _⟩ => ⟨S2x128x128x256, .f32⟩
  | .hbm, ⟨41, _⟩ => ⟨S_, .f32⟩
  | .hbm, ⟨42, _⟩ => ⟨S2x128x256, .f32⟩
  | .hbm, ⟨43, _⟩ => ⟨S2x256x16384, .f32⟩
  | .hbm, ⟨44, _⟩ => ⟨S2x256x128, .f32⟩
  | _, _ => ⟨S2x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== KernelW.lean ====
abbrev S2x2048x16384 : Shape := ⟨3, ![2, 2048, 16384]⟩
abbrev S2x256x16384 : Shape := ⟨3, ![2, 256, 16384]⟩
abbrev S2x256x128 : Shape := ⟨3, ![2, 256, 128]⟩
abbrev S2x2048x256 : Shape := ⟨3, ![2, 2048, 256]⟩
abbrev S2x16384x256 : Shape := ⟨3, ![2, 16384, 256]⟩
abbrev S1x2048x512 : Shape := ⟨3, ![1, 2048, 512]⟩
abbrev S1x256x512 : Shape := ⟨3, ![1, 256, 512]⟩
abbrev S1x256x128 : Shape := ⟨3, ![1, 256, 128]⟩
abbrev S1x2048x256 : Shape := ⟨3, ![1, 2048, 256]⟩
abbrev S1x512x256 : Shape := ⟨3, ![1, 512, 256]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x16384, .f32⟩
  | .hbm, ⟨1, _⟩ => ⟨S2x256x16384, .f32⟩
  | .hbm, ⟨2, _⟩ => ⟨S2x256x128, .f32⟩
  | .hbm, ⟨3, _⟩ => ⟨S2x2048x256, .bf16⟩
  | .hbm, ⟨4, _⟩ => ⟨S2x2048x16384, .f32⟩
  | .hbm, ⟨5, _⟩ => ⟨S2x2048x16384, .f32⟩
  | .hbm, ⟨6, _⟩ => ⟨S2x16384x256, .bf16⟩
  | .local _ .vmem, ⟨0, _⟩ => ⟨S1x2048x512, .f32⟩
  | .local _ .vmem, ⟨1, _⟩ => ⟨S1x2048x512, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x512x256, .bf16⟩
  | .local _ .vmem, ⟨13, _⟩ => ⟨S1x512x256, .bf16⟩
  | _, _ => ⟨S2x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceWIdeal.lean ====
abbrev S2x2048x16384 : Shape := ⟨3, ![2, 2048, 16384]⟩
abbrev S2x256x16384 : Shape := ⟨3, ![2, 256, 16384]⟩
abbrev S2x256x128 : Shape := ⟨3, ![2, 256, 128]⟩
abbrev S2x2048x256 : Shape := ⟨3, ![2, 2048, 256]⟩
abbrev S2x16384x256 : Shape := ⟨3, ![2, 16384, 256]⟩
abbrev S_ : Shape := ⟨0, ![]⟩
abbrev S2x256 : Shape := ⟨2, ![2, 256]⟩
abbrev S2x1x256 : Shape := ⟨3, ![2, 1, 256]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x16384, .f32⟩
  | .hbm, ⟨1, _⟩ => ⟨S2x256x16384, .f32⟩
  | .hbm, ⟨2, _⟩ => ⟨S2x256x128, .f32⟩
  | .hbm, ⟨3, _⟩ => ⟨S2x2048x256, .bf16⟩
  | .hbm, ⟨4, _⟩ => ⟨S2x16384x256, .f32⟩
  | .hbm, ⟨5, _⟩ => ⟨S_, .f32⟩
  | .hbm, ⟨6, _⟩ => ⟨S2x256, .f32⟩
  | .hbm, ⟨7, _⟩ => ⟨S2x256, .f32⟩
  | .hbm, ⟨8, _⟩ => ⟨S2x1x256, .f32⟩
  | .hbm, ⟨9, _⟩ => ⟨S2x16384x256, .f32⟩
  | .hbm, ⟨10, _⟩ => ⟨S2x16384x256, .f32⟩
  | .hbm, ⟨11, _⟩ => ⟨S2x16384x256, .bf16⟩
  | .hbm, ⟨12, _⟩ => ⟨S2x2048x16384, .f32⟩
  | .hbm, ⟨13, _⟩ => ⟨S_, .f32⟩
  | .hbm, ⟨14, _⟩ => ⟨S2x2048x16384, .f32⟩
  | .hbm, ⟨15, _⟩ => ⟨S2x2048x16384, .f32⟩
  | .hbm, ⟨16, _⟩ => ⟨S_, .f32⟩
  | .hbm, ⟨17, _⟩ => ⟨S2x2048x16384, .f32⟩
  | .hbm, ⟨18, _⟩ => ⟨S2x2048x16384, .f32⟩
  | .hbm, ⟨19, _⟩ => ⟨S2x2048x16384, .f32⟩
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.WPass.Terms.lean ====
module

public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelWIdeal.Value

open Cert.KernelWIdeal Cert.KernelWIdeal.Gen

variable (m : (ℓ : Loc nD τ sig) → Buf (Elt Ideal) ℓ)

/-- The reference's `q_new`: `R` with its columns divided by the square root of the sums of squares. -/
abbrev newQ (rt : FVec Ideal Cert.ReferenceWIdeal.S2x256x16384 .f32) (sq : FVec Ideal Cert.ReferenceWIdeal.S2x256x128 .f32) :
    FVec Ideal Cert.ReferenceWIdeal.S2x16384x256 .bf16 :=
  truncf .bf16 (Host.divf (transpose Cert.ReferenceWIdeal.S2x16384x256 [0, 2, 1] rt
      Cert.ReferenceWIdeal.Gen.transposes_S2x256x16384_S2x16384x256_0_2_1)
    (broadcastInDim Cert.ReferenceWIdeal.S2x16384x256 ![0, 1, 2] Cert.ReferenceWIdeal.Gen.bcast_S2x1x256_S2x16384x256_0_1_2
      (broadcastInDim Cert.ReferenceWIdeal.S2x1x256 ![0, 2] Cert.ReferenceWIdeal.Gen.bcast_S2x256_S2x1x256_0_2
        (Host.sqrt (Host.reduceAdd sq (constant Cert.ReferenceWIdeal.S_ .f32 0x00000000#32)
          Cert.ReferenceWIdeal.Gen.reducesTo_S2x256x128_S2x256_d2 Cert.ReferenceWIdeal.Gen.h_S_)))))
    Cert.ReferenceWIdeal.Gen.bitsLt_bf16_f32

/-- The reference's `update`: the gain times `P_b q_newᵀ`. -/
abbrev update (rt : FVec Ideal Cert.ReferenceWIdeal.S2x256x16384 .f32) (sq : FVec Ideal Cert.ReferenceWIdeal.S2x256x128 .f32)
    (pb : FVec Ideal Cert.ReferenceWIdeal.S2x2048x256 .bf16) : FVec Ideal Cert.ReferenceWIdeal.S2x2048x16384 .f32 :=
  mulf (broadcastInDim Cert.ReferenceWIdeal.S2x2048x16384 ![] Cert.ReferenceWIdeal.Gen.bcast_S_S2x2048x16384
      (constant Cert.ReferenceWIdeal.S_ .f32 0x3EB504F3#32))
    (Host.dotGeneral Cert.ReferenceWIdeal.dot_S2x2048x256_S2x16384x256_S2x2048x16384_2_2_1_1_0_0 none pb (newQ rt sq))

/-- The reference's `w_new`: the weights less the learning rate times `update`. -/
abbrev newW (w : FVec Ideal Cert.ReferenceWIdeal.S2x2048x16384 .f32) (rt : FVec Ideal Cert.ReferenceWIdeal.S2x256x16384 .f32)
    (sq : FVec Ideal Cert.ReferenceWIdeal.S2x256x128 .f32) (pb : FVec Ideal Cert.ReferenceWIdeal.S2x2048x256 .bf16) :
    FVec Ideal Cert.ReferenceWIdeal.S2x2048x16384 .f32 :=
  subf w (mulf (broadcastInDim Cert.ReferenceWIdeal.S2x2048x16384 ![] Cert.ReferenceWIdeal.Gen.bcast_S_S2x2048x16384
      (constant Cert.ReferenceWIdeal.S_ .f32 0x3C23D70A#32)) (update rt sq pb))

/-- every window's block index at every grid point, in closed form (decided). Use: `obtain ⟨e0, e1, e2, e3, e4, e5, e6⟩ := idx t`, then
    `blk_simp [e0, …]` / `blk_ext [e0, …]` put block embeddings at coordinates (value_ideal.md §3). -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, 0]
    ∧ win0_3.index t = ![(grid0.coords t 0).val, 0, 0]
    ∧ win0_4.index t = ![(grid0.coords t 0).val, 0, (grid0.coords t 1).val]
    ∧ win0_5.index t = ![(grid0.coords t 0).val, 0, (grid0.coords t 1).val]
    ∧ win0_6.index t = ![(grid0.coords t 0).val, (grid0.coords t 1).val, 0] :=
  (by decide +kernel : ∀ t : Fin grid0.N, _)

/-- the same in `t.val` (for `omega` beside a schedule fact `t.val % J = r`). -/
theorem idx_val : ∀ t : Fin cfg0.N, win0_0.index t = ![t.val / 32, 0, t.val % 32]
    ∧ win0_1.index t = ![t.val / 32, 0, t.val % 32]
    ∧ win0_2.index t = ![t.val / 32, 0, 0]
    ∧ win0_3.index t = ![t.val / 32, 0, 0]
    ∧ win0_4.index t = ![t.val / 32, 0, t.val % 32]
    ∧ win0_5.index t = ![t.val / 32, 0, t.val % 32]
    ∧ win0_6.index t = ![t.val / 32, t.val % 32, 0] :=
  (by decide +kernel : ∀ t : Fin grid0.N, _)

end Cert.KernelWIdeal.Value

end
-- ==== Proof.WPass.NewWeights.lean ====
module

public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import Idealize.ShloMosaic.Lib.Pipeline.ValueKit
public import Idealize.ShloMosaic.Lib.StableHlo.Run
public import proofs.«01_k».proof.Proof.WPass.Terms

@[expose] public section

set_option maxRecDepth 16384

noncomputable section

open Idealize.ShloMosaic Idealize.ShloMosaic.TcCoe Idealize.SL.Sem
open Idealize.ShloMosaic.Pipeline (Dat)
open scoped BigOperators

namespace Cert.KernelWIdeal.Value

open Cert.KernelWIdeal Cert.KernelWIdeal.Gen

variable (m : (ℓ : Loc nD τ sig) → Buf (Elt Ideal) ℓ)

set_option maxHeartbeats 1600000 in
/-- POINT over the 8 tile STORES (value_cases.md §(c) store side): one goal per piece (`x` the piece's own index, `h·` its offsets). -/
theorem point_4 (c : Dev nD) (t : Fin cfg0.N) (y) :
    out0_4 (iblk m c 0 t) (iblk m c 1 t) (iblk m c 2 t) (iblk m c 3 t) y
      = newW (m ((c : Thread nD τ).loc main_arg0)) (m ((c : Thread nD τ).loc main_arg1)) (m ((c : Thread nD τ).loc
        main_arg2)) (m ((c : Thread nD τ).loc main_arg3)) (((cfg0.win 4).blk t).view.emb y) := by
  canon_tiles x h; all_goals (open_payloads; pointwise [newW, update, newQ]; blk_point [iblk, V, idx_val t])

theorem final_4 (c : Dev nD) : (dats m 0 c).arrAt 4 (cfgs 0).N = newW (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point_4 m c t y

end Cert.KernelWIdeal.Value

end
-- ==== Proof.WPass.Update.lean ====
module

public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import Idealize.ShloMosaic.Lib.Pipeline.ValueKit
public import Idealize.ShloMosaic.Lib.StableHlo.Run
public import proofs.«01_k».proof.Proof.WPass.Terms

@[expose] public section

set_option maxRecDepth 16384

noncomputable section

open Idealize.ShloMosaic Idealize.ShloMosaic.TcCoe Idealize.SL.Sem
open Idealize.ShloMosaic.Pipeline (Dat)
open scoped BigOperators

namespace Cert.KernelWIdeal.Value

open Cert.KernelWIdeal Cert.KernelWIdeal.Gen

variable (m : (ℓ : Loc nD τ sig) → Buf (Elt Ideal) ℓ)

set_option maxHeartbeats 1600000 in
/-- POINT over the 8 tile STORES (value_cases.md §(c) store side): one goal per piece (`x` the piece's own index, `h·` its offsets). -/
theorem point_5 (c : Dev nD) (t : Fin cfg0.N) (y) :
    out0_5 (iblk m c 0 t) (iblk m c 1 t) (iblk m c 2 t) (iblk m c 3 t) y
      = update (m ((c : Thread nD τ).loc main_arg1)) (m ((c : Thread nD τ).loc main_arg2)) (m ((c : Thread nD τ).loc
        main_arg3)) (((cfg0.win 5).blk t).view.emb y) := by
  canon_tiles x h; all_goals (open_payloads; pointwise [update, newQ]; blk_point [iblk, V, idx_val t])

theorem final_5 (c : Dev nD) : (dats m 0 c).arrAt 5 (cfgs 0).N = update (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point_5 m c t y

end Cert.KernelWIdeal.Value

end
-- ==== Proof.WPass.NewQ.lean ====
module

public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import Idealize.ShloMosaic.Lib.Pipeline.ValueKit
public import Idealize.ShloMosaic.Lib.StableHlo.Run
public import proofs.«01_k».proof.Proof.WPass.Terms

@[expose] public section

set_option maxRecDepth 16384

noncomputable section

open Idealize.ShloMosaic Idealize.ShloMosaic.TcCoe Idealize.SL.Sem
open Idealize.ShloMosaic.Pipeline (Dat)
open scoped BigOperators

namespace Cert.KernelWIdeal.Value

open Cert.KernelWIdeal Cert.KernelWIdeal.Gen

variable (m : (ℓ : Loc nD τ sig) → Buf (Elt Ideal) ℓ)

/-- POINT: what the body stores at block index `y` of point `t` is the reference at the array index `y` sits at. -/
theorem point_6 (c : Dev nD) (t : Fin cfg0.N) (y) :
    k0_pay7 (iblk m c 2 t) (iblk m c 1 t) y
      = newQ (m ((c : Thread nD τ).loc main_arg1)) (m ((c : Thread nD τ).loc main_arg2)) (((cfg0.win 6).blk
        t).view.emb y) := by
  pointwise [k0_pay7, newQ]; blk_point [iblk, V, idx_val t]

/-- BRIDGE: the result array after the run (complete: the blocks tile the array, decided). -/
theorem final_6 (c : Dev nD) : (dats m 0 c).arrAt 6 (cfgs 0).N = newQ (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

end Cert.KernelWIdeal.Value

end
-- ==== Proof.PBits.Runs.lean ====
/- What the run of the body of `p_pass` over machine floats is stated over: the staging and scratch memrefs. -/
module

public import proofs.«01_k».proof.Proof.Gen.KernelP.Frame
public import proofs.«01_k».proof.Proof.Gen.KernelP.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelP.PBits

open Idealize.ShloMosaic Idealize.ShloMosaic.TcCoe Idealize.ShloMosaic.Tactic Cert.KernelP.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The staging memref of each window at a point, and that it is whole. -/
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2048x1024 .bf16 := Memref.whole cc0_scratch0

/-- The pipeline's invariant with the scratch buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelP.PBits

end
-- ==== Proof.PBits.RunA.lean ====
/- The body of `p_pass` over machine floats at any point. -/
module

public import proofs.«01_k».proof.Proof.PBits.Runs

@[expose] public section

set_option maxRecDepth 16384

noncomputable section

namespace Cert.KernelP.PBits

open Idealize.ShloMosaic Idealize.ShloMosaic.TcCoe Idealize.ShloMosaic.Tactic Cert.KernelP.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at any point: it ends, with its inputs as they were. -/
theorem run_A (c : Dev nD) (i : grid0.Coords) (arg2 : Memref sig .tc .vmem S1x2048x1024 .bf16) (harg2 : arg2.IsWhole) (arg3 : Memref sig .tc .vmem S1x2048x512 .i8) (harg3 : arg3.IsWhole) (arg4 : Memref sig .tc .vmem S1x2048x128 .f32) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1024 .bf16) (harg7 : arg7.IsWhole)
    (x0 : Vec F S1x2048x1024 .bf16) (x1 : Vec F S1x2048x512 .i8) (x2 : Vec F S1x2048x128 .f32) (x3 : Vec F S1x1024x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)) -∗ K ⟨⟩))
          ⊢ wp frame (wpE (defs₀ (F := F)) Variants.none c none) E (cc0_p_pass i arg2 harg2 arg3 harg3 arg4 harg4 arg5 harg5 arg6 harg6 arg7 harg7) K := by
    intro E K
    simp only [cc0_p_pass_eq_skeleton]; unfold cc0_p_pass_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    iexists _, _; isplitr; swap; · iexact HS0
    ipureintro; rfl

end Cert.KernelP.PBits

end
-- ==== Proof.PBits.Frame.lean ====
/- The launch of `p_pass` over machine floats: it terminates, its arguments unchanged. -/
module

public import proofs.«01_k».proof.Proof.PBits.RunA
public import Idealize.ShloMosaic.Lib.Claim

@[expose] public section

set_option maxRecDepth 16384

noncomputable section

namespace Cert.KernelP.PBits

open Idealize.ShloMosaic Idealize.ShloMosaic.TcCoe Idealize.ShloMosaic.Tactic Cert.KernelP.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The argument arrays end as launched, from a launch whose proof data starts from the region-entry contents. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The output windows nothing is stated of: its one. -/
def forgets0 : Fin 5 → Bool := fun w => w.val == 4

/-- The proof data of the pipeline: the arrays as the region finds them, each input's buffer at its block after every point,
    the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: its one run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((run_A c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the arrays end as the proof data says, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf m ρ (fun c => (dats m 0 c).toRForget forgets0) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelP.PBits

end
-- ==== Proof.PPass.Chunk.lean ====
/- What the body of `p_pass` computes on 512 rows and 128 columns: the dequantised momentum plus the gradient, and the
   same rounded to bf16 with the rows of each group of 16 interleaved. Stated over any floats. -/
module

public import proofs.«01_k».proof.Proof.Gen.KernelPIdeal.Frame
public import proofs.«01_k».proof.Proof.Gen.KernelPIdeal.Skeleton
public import Idealize.ShloMosaic.Lib.WholeRead

@[expose] public section

set_option maxRecDepth 16384

noncomputable section

namespace Cert.KernelPIdeal.PPass

open Idealize.ShloMosaic Idealize.ShloMosaic.TcCoe Cert.KernelPIdeal.Gen

variable {F : FTy → Type} [FloatOps F]

/-- The codes of one 128-column block as floats: the block is the half `h` (0 or 64) of 256 columns packed two to a byte. -/
def spread (h : BitVec 32) (codes : IVec S512x128 8) : FVec F S512x128 .f32 :=
  let w : IVec S128x128 32 := bitcast S128x128 32 codes bitcasts_S512x128_w8_S128x128_w32
  let lane : IVec S128x128 32 := iota .tc S128x128 32 [1] iota_S128x128_d1_w32
  let src : IVec S128x128 32 := addi (broadcast S128x128 h) (shrsi lane (broadcast S128x128 1#32))
  let src : IVec S128x128 32 :=
    select (cmpi .slt src (broadcast S128x128 0#32)) (addi src (broadcast S128x128 128#32)) src
  let idx : IVec S128x128 32 := shapeCast S128x128 (shapeCast S128x128x1 src shapeCasts_S128x128_S128x128x1)
    shapeCasts_S128x128x1_S128x128
  let d : IVec S128x128 32 := dynamicGather 1 w idx
  let d : IVec S128x128 32 :=
    shrsi d (shli (andi lane (broadcast S128x128 1#32)) (broadcast S128x128 2#32))
  let n : IVec S512x128 32 := extsi 32 (bitcast S512x128 8 d bitcasts_S128x128_w32_S512x128_w8) natLt_8_32
  sitofp .f32 (shrsi (shli n (broadcast S512x128 28#32)) (broadcast S512x128 28#32))

/-- One block of the momentum with the gradient added: the codes times their scale, plus the gradient. -/
def chunkB (h : BitVec 32) (o : ℕ) (ho : S512x128.Slices ![0, o] S512x1) (amt : BitVec 32)
    (s : Vec F S1x512x128 .f32) (codes : Vec F S1x512x128 .i8) (g : Vec F S1x512x128 .bf16) : FVec F S512x128 .f32 :=
  let rot : FVec F S512x128 .f32 :=
    dynamicRotate 1 amt none (shapeCast S512x128 s shapeCasts_S1x512x128_S512x128) rotates_S512x128_d1
  let scale : FVec F S512x128 .f32 :=
    broadcastTo S512x128 (extractStridedSlice S512x1 ![0, o] rot ho) broadcasts_S512x1_S512x128
  addf (mulf (spread h (shapeCast S512x128 codes shapeCasts_S1x512x128_S512x128)) scale)
    (extf .f32 (shapeCast S512x128 g shapeCasts_S1x512x128_S512x128) bitsLt_bf16_f32)

/-- A block rounded to bf16, rows interleaved: rows `2c` and `2c + 1` of a group of 16 are its rows `c` and `8 + c`. -/
def interleave (b : FVec F S512x128 .f32) : FVec F S512x128 .bf16 :=
  let x : FVec F S32x16x128 .f32 := shapeCast S32x16x128 b shapeCasts_S512x128_S32x16x128
  let lo : FVec F S256x128 .f32 := shapeCast S256x128
    (extractStridedSlice S32x8x128 ![0, 0, 0] x slices_S32x16x128_o0_0_0_S32x8x128) shapeCasts_S32x8x128_S256x128
  let hi : FVec F S256x128 .f32 := shapeCast S256x128
    (extractStridedSlice S32x8x128 ![0, 8, 0] x slices_S32x16x128_o0_8_0_S32x8x128) shapeCasts_S32x8x128_S256x128
  shapeCast S512x128 (interleaveRows S512x128 (truncf .bf16 lo) (truncf .bf16 hi)
    bitcasts_S512x128_w16_S256x128_w32) shapeCasts_S512x128_S512x128

/-- How far the scales of a row are rotated at a grid point: 128 less eight times the tile's number, modulo 128. -/
def amount (i : grid0.Coords) : BitVec 32 :=
  let n : BitVec 32 := Scalar.subi 128#32 (Scalar.muli (BitVec.ofNat 32 (i 1).val) 8#32)
  let d : BitVec 32 := Scalar.select (Scalar.cmpi .eq 128#32 0#32) 1#32 128#32
  let r : BitVec 32 := Scalar.remsi n d
  Scalar.select (Scalar.andi (Scalar.xori (Scalar.cmpi .slt r 0#32) (Scalar.cmpi .slt d 0#32)) (Scalar.cmpi .ne r 0#32))
    (Scalar.addi r d) r

theorem inb_s {r : ℕ} (hr : r + 512 ≤ 2048) : ∀ a, (![0, r, 0] : Fin 3 → ℕ) a + S1x512x128.size a ≤ S1x2048x128.size a := by
  intro a; fin_cases a
  · exact le_refl _
  · exact hr
  · exact le_refl _

theorem inb_c {r c : ℕ} (hr : r + 512 ≤ 2048) (hc : c + 128 ≤ 512) :
    ∀ a, (![0, r, c] : Fin 3 → ℕ) a + S1x512x128.size a ≤ S1x2048x512.size a := by
  intro a; fin_cases a
  · exact le_refl _
  · exact hr
  · exact hc

theorem inb_g {r c : ℕ} (hr : r + 512 ≤ 2048) (hc : c + 128 ≤ 1024) :
    ∀ a, (![0, r, c] : Fin 3 → ℕ) a + S1x512x128.size a ≤ S1x2048x1024.size a := by
  intro a; fin_cases a
  · exact le_refl _
  · exact hr
  · exact hc

theorem inb_bb {r c : ℕ} (hr : r + 512 ≤ 2048) (hc : c + 128 ≤ 1024) :
    ∀ a, (![r, c] : Fin 2 → ℕ) a + S512x128.size a ≤ S2048x1024.size a := by
  intro a; fin_cases a
  · exact hr
  · exact hc

/-- The block of the momentum with rows from `r` and columns from `c`, from the loads of the gradient (`l0`), the codes
    (`l1`, columns from `k`) and the scales (`l2`, column `o` of the rotated rows). -/
def blockOf (i : grid0.Coords)
    (l0 : (r c : ℕ) → (∀ a, (![0, r, c] : Fin 3 → ℕ) a + S1x512x128.size a ≤ S1x2048x1024.size a) → Vec F S1x512x128 .bf16)
    (l1 : (r c : ℕ) → (∀ a, (![0, r, c] : Fin 3 → ℕ) a + S1x512x128.size a ≤ S1x2048x512.size a) → Vec F S1x512x128 .i8)
    (l2 : (r : ℕ) → (∀ a, (![0, r, 0] : Fin 3 → ℕ) a + S1x512x128.size a ≤ S1x2048x128.size a) → Vec F S1x512x128 .f32)
    (r c k o : ℕ) (h : BitVec 32) (hr : r + 512 ≤ 2048) (hc : c + 128 ≤ 1024) (hk : k + 128 ≤ 512)
    (ho : S512x128.Slices ![0, o] S512x1) : FVec F S512x128 .f32 :=
  chunkB h o ho (amount i) (l2 r (inb_s hr)) (l1 r k (inb_c hr hk)) (l0 r c (inb_g hr hc))

/-- The piece of the bf16 tile the body stores for that block. -/
def pieceOf (i : grid0.Coords)
    (l0 : (r c : ℕ) → (∀ a, (![0, r, c] : Fin 3 → ℕ) a + S1x512x128.size a ≤ S1x2048x1024.size a) → Vec F S1x512x128 .bf16)
    (l1 : (r c : ℕ) → (∀ a, (![0, r, c] : Fin 3 → ℕ) a + S1x512x128.size a ≤ S1x2048x512.size a) → Vec F S1x512x128 .i8)
    (l2 : (r : ℕ) → (∀ a, (![0, r, 0] : Fin 3 → ℕ) a + S1x512x128.size a ≤ S1x2048x128.size a) → Vec F S1x512x128 .f32)
    (r c k o : ℕ) (h : BitVec 32) (hr : r + 512 ≤ 2048) (hc : c + 128 ≤ 1024) (hk : k + 128 ≤ 512)
    (ho : S512x128.Slices ![0, o] S512x1) : View.Piece (Elt F) S2048x1024 .bf16 :=
  ⟨Rect.unit ![r, c] S512x128.size (inb_bb hr hc), interleave (blockOf i l0 l1 l2 r c k o h hr hc hk ho)⟩

/-- The eight pieces of the bf16 tile over the 512 rows from `r`, in the order the stores leave them, before `L`. -/
def piecesOf (i : grid0.Coords)
    (l0 : (r c : ℕ) → (∀ a, (![0, r, c] : Fin 3 → ℕ) a + S1x512x128.size a ≤ S1x2048x1024.size a) → Vec F S1x512x128 .bf16)
    (l1 : (r c : ℕ) → (∀ a, (![0, r, c] : Fin 3 → ℕ) a + S1x512x128.size a ≤ S1x2048x512.size a) → Vec F S1x512x128 .i8)
    (l2 : (r : ℕ) → (∀ a, (![0, r, 0] : Fin 3 → ℕ) a + S1x512x128.size a ≤ S1x2048x128.size a) → Vec F S1x512x128 .f32) (r : ℕ)
    (hr : r + 512 ≤ 2048) (L : List (View.Piece (Elt F) S2048x1024 .bf16)) : List (View.Piece (Elt F) S2048x1024 .bf16) :=
  pieceOf i l0 l1 l2 r 896 384 7 64#32 hr (by decide) (by decide) slices_S512x128_o0_7_S512x1 ::
  pieceOf i l0 l1 l2 r 768 384 6 0#32 hr (by decide) (by decide) slices_S512x128_o0_6_S512x1 ::
  pieceOf i l0 l1 l2 r 640 256 5 64#32 hr (by decide) (by decide) slices_S512x128_o0_5_S512x1 ::
  pieceOf i l0 l1 l2 r 512 256 4 0#32 hr (by decide) (by decide) slices_S512x128_o0_4_S512x1 ::
  pieceOf i l0 l1 l2 r 384 128 3 64#32 hr (by decide) (by decide) slices_S512x128_o0_3_S512x1 ::
  pieceOf i l0 l1 l2 r 256 128 2 0#32 hr (by decide) (by decide) slices_S512x128_o0_2_S512x1 ::
  pieceOf i l0 l1 l2 r 128 0 1 64#32 hr (by decide) (by decide) slices_S512x128_o0_1_S512x1 ::
  pieceOf i l0 l1 l2 r 0 0 0 0#32 hr (by decide) (by decide) slices_S512x128_o0_0_S512x1 :: L

/-- Those over the staged blocks `x0` (gradient), `x1` (codes) and `x2` (scales). -/
def piecesBB (i : grid0.Coords) (x0 : Vec F S1x2048x1024 .bf16) (x1 : Vec F S1x2048x512 .i8) (x2 : Vec F S1x2048x128 .f32)
    (r : ℕ) (hr : r + 512 ≤ 2048) (L : List (View.Piece (Elt F) S2048x1024 .bf16)) : List (View.Piece (Elt F) S2048x1024 .bf16) :=
  piecesOf i (fun r c h z => x0 ((Rect.unit (s := S1x2048x1024) ![0, r, c] S1x512x128.size h).toLoadRect.idx z))
    (fun r c h z => x1 ((Rect.unit (s := S1x2048x512) ![0, r, c] S1x512x128.size h).toLoadRect.idx z))
    (fun r h z => x2 ((Rect.unit (s := S1x2048x128) ![0, r, 0] S1x512x128.size h).toLoadRect.idx z)) r hr L

/-- A load through a whole memref held at the contents that read `X`, as a function. -/
theorem readAt_unread {sig : RefSig} {Val : EltTy → Type} {κ : Kind} {sp : Space} {s : Shape} {e : EltTy}
    {m : Memref sig κ sp s e} (h : m.IsWhole) (X : s.Idx → Val e) (B : LoadRect s) :
    View.readAt Val m.view B (h.unread X) = fun x => X (B.idx x) :=
  funext (Memref.IsWhole.readAt_unread h X B)

/-- The pieces over loads of whole memrefs held at the staged blocks. -/
theorem piecesOf_readAt (i : grid0.Coords) {arg2 : Memref sig .tc .vmem S1x2048x1024 .bf16} (harg2 : arg2.IsWhole)
    {arg3 : Memref sig .tc .vmem S1x2048x512 .i8} (harg3 : arg3.IsWhole)
    {arg4 : Memref sig .tc .vmem S1x2048x128 .f32} (harg4 : arg4.IsWhole)
    (x0 : Vec F S1x2048x1024 .bf16) (x1 : Vec F S1x2048x512 .i8) (x2 : Vec F S1x2048x128 .f32) (r : ℕ) (hr : r + 512 ≤ 2048)
    (L : List (View.Piece (Elt F) S2048x1024 .bf16)) :
    piecesOf i
      (fun r c h => View.readAt (Elt F) arg2.view (Rect.unit (s := S1x2048x1024) ![0, r, c] S1x512x128.size h).toLoadRect (harg2.unread x0))
      (fun r c h => View.readAt (Elt F) arg3.view (Rect.unit (s := S1x2048x512) ![0, r, c] S1x512x128.size h).toLoadRect (harg3.unread x1))
      (fun r h => View.readAt (Elt F) arg4.view (Rect.unit (s := S1x2048x128) ![0, r, 0] S1x512x128.size h).toLoadRect (harg4.unread x2)) r hr L
      = piecesBB i x0 x1 x2 r hr L := by
  unfold piecesBB
  congr 1
  · funext r c h; exact readAt_unread harg2 x0 _
  · funext r c h; exact readAt_unread harg3 x1 _
  · funext r h; exact readAt_unread harg4 x2 _

end Cert.KernelPIdeal.PPass

end
-- ==== Proof.PPass.Spec.lean ====
/- The reference of `p_pass` read element by element over the extended reals: the four-bit codes, the momentum with the
   gradient added, and its product with `Q`, its rows in the interleaved order. -/
module

public import proofs.«01_k».proof.Proof.Gen.ReferencePIdeal.Run
public import Idealize.ShloMosaic.Lib.Pipeline.ValueKit

@[expose] public section

set_option maxRecDepth 16384

noncomputable section

namespace Cert.ReferencePIdeal.PPass

open Idealize.ShloMosaic Idealize.ShloMosaic.TcCoe Cert.ReferencePIdeal Cert.ReferencePIdeal.Gen
open scoped BigOperators

/-- The signed value of four bits of a byte, as a word: the low four (`o = 0`) or the high four (`o = 1`). -/
def nib (b : BitVec 8) (o : ℕ) : BitVec 32 := (((b >>> (4 * o)).signExtend 32) <<< 28).sshiftRight 28

/-- The reference's way of making a four-bit word signed: less 16 from 8 on. -/
abbrev signed (x : IVec S2x2048x8192 32) : IVec S2x2048x8192 32 :=
  (select (cmpi .sge x (broadcastInDim S2x2048x8192 ![] bcast_S_S2x2048x8192 (constantI S_ 32 8#32))) (subi x (broadcastInDim S2x2048x8192 ![] bcast_S_S2x2048x8192 (constantI S_ 32 16#32))) x)

/-- The reference's codes, two columns a byte, the low half first. -/
abbrev unpacked (codes : IVec S2x2048x8192 8) : IVec S2x2048x8192x2 32 :=
  concatenate S2x2048x8192x2 3 [⟨S2x2048x8192x1, (broadcastInDim S2x2048x8192x1 ![0, 1, 2] bcast_S2x2048x8192_S2x2048x8192x1_0_1_2 (signed (andi (extui 32 codes natLt_8_32) (broadcastInDim S2x2048x8192 ![] bcast_S_S2x2048x8192 (constantI S_ 32 15#32)))))⟩, ⟨S2x2048x8192x1, (broadcastInDim S2x2048x8192x1 ![0, 1, 2] bcast_S2x2048x8192_S2x2048x8192x1_0_1_2 (signed (Host.shrsi (extui 32 codes natLt_8_32) (broadcastInDim S2x2048x8192 ![] bcast_S_S2x2048x8192 (constantI S_ 32 4#32)))))⟩] concatenates_S2x2048x8192x1_S2x2048x8192x1_S2x2048x8192x2_d3

/-- The reference's momentum with the gradient added. -/
abbrev refB (g : FVec Ideal S2x2048x16384 .bf16) (codes : IVec S2x2048x8192 8) (scales : FVec Ideal S2x2048x128 .f32) :
    FVec Ideal S2x2048x16384 .bf16 :=
  truncf .bf16 (addf (shapeCast _ (mulf (shapeCast _ (sitofp .f32 (shapeCast S2x2048x16384 (unpacked codes) shapeCasts_S2x2048x8192x2_S2x2048x16384)) shapeCasts_S2x2048x16384_S2x2048x128x128) (broadcastInDim S2x2048x128x128 ![0, 1, 2, 3] bcast_S2x2048x128x1_S2x2048x128x128_0_1_2_3 (broadcastInDim S2x2048x128x1 ![0, 1, 2] bcast_S2x2048x128_S2x2048x128x1_0_1_2 scales))) shapeCasts_S2x2048x128x128_S2x2048x16384) (extf .f32 g bitsLt_bf16_f32)) bitsLt_bf16_f32

/-- The reference's product `P`. -/
abbrev refProd (g : FVec Ideal S2x2048x16384 .bf16) (codes : IVec S2x2048x8192 8) (scales : FVec Ideal S2x2048x128 .f32)
    (q : FVec Ideal S2x16384x256 .bf16) : FVec Ideal S2x2048x256 .f32 :=
  Host.dotGeneral dot_S2x2048x16384_S2x16384x256_S2x2048x256_2_1_1_2_0_0 none (refB g codes scales) q

/-- The reference's `P` with its rows interleaved. -/
abbrev refP (g : FVec Ideal S2x2048x16384 .bf16) (codes : IVec S2x2048x8192 8) (scales : FVec Ideal S2x2048x128 .f32)
    (q : FVec Ideal S2x16384x256 .bf16) : FVec Ideal S2x2048x256 .f32 :=
  shapeCast _ (transpose S2x128x8x2x256 [0, 1, 3, 2, 4] (shapeCast _ (refProd g codes scales q)
    shapeCasts_S2x2048x256_S2x128x2x8x256) transposes_S2x128x2x8x256_S2x128x8x2x256_0_1_3_2_4)
    shapeCasts_S2x128x8x2x256_S2x2048x256

/-- One element of the momentum with the gradient added. -/
def momB (g : FVec Ideal S2x2048x16384 .bf16) (codes : IVec S2x2048x8192 8) (scales : FVec Ideal S2x2048x128 .f32)
    (b : Fin 2) (k : Fin 2048) (n : Fin 16384) : Ideal .f32 :=
  FloatOps.sitofp .f32 (nib (codes (ix3 b k ⟨n.val / 2, by omega⟩)) (n.val % 2)) * scales (ix3 b k ⟨n.val / 128, by omega⟩)
    + g (ix3 b k n)

/-- Where row `ρ` of the interleaved rows comes from. -/
def perm (ρ : Fin 2048) : Fin 2048 := ⟨ρ.val / 16 * 16 + ρ.val % 2 * 8 + ρ.val / 2 % 8, by omega⟩

/-- One element of `P`. -/
def elP (g : FVec Ideal S2x2048x16384 .bf16) (codes : IVec S2x2048x8192 8) (scales : FVec Ideal S2x2048x128 .f32)
    (q : FVec Ideal S2x16384x256 .bf16) (b : Fin 2) (k : Fin 2048) (r : Fin 256) : Ideal .f32 :=
  ∑ n : Fin 16384, momB g codes scales b k n * q (ix3 b n r)

theorem signed_low : ∀ b : BitVec 8, Scalar.select (IntOp.cmpi .sge (IntOp.andi (BitVec.setWidth 32 b) 15#32) 8#32)
    (IntOp.subi (IntOp.andi (BitVec.setWidth 32 b) 15#32) 16#32) (IntOp.andi (BitVec.setWidth 32 b) 15#32) = nib b 0 := by
  decide +kernel

theorem signed_high : ∀ b : BitVec 8,
    Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)
      = nib b 1 := by
  decide +kernel

/-- The reference's codes are the signed halves of the bytes. -/
theorem unpacked_apply (codes : IVec S2x2048x8192 8) (y : S2x2048x8192x2.Idx) :
    unpacked codes y = nib (codes (ix3 (y 0) (y 1) (y 2))) (y 3).val := by
  pointwise [unpacked, signed]
  have h3 : (y 3).val < 2 := (y 3).isLt
  split
  · next h => rw [signed_low]; congr 1; omega
  · next h => rw [signed_high]; congr 1; omega

theorem refB_apply (g : FVec Ideal S2x2048x16384 .bf16) (codes : IVec S2x2048x8192 8) (scales : FVec Ideal S2x2048x128 .f32)
    (b : Fin 2) (k : Fin 2048) (n : Fin 16384) : refB g codes scales (ix3 b k n) = momB g codes scales b k n := by
  have hu := unpacked_apply codes
  unfold momB refB
  generalize unpacked codes = u at *
  pointwise [hu]

theorem refProd_apply (g : FVec Ideal S2x2048x16384 .bf16) (codes : IVec S2x2048x8192 8) (scales : FVec Ideal S2x2048x128 .f32)
    (q : FVec Ideal S2x16384x256 .bf16) (b : Fin 2) (k : Fin 2048) (r : Fin 256) :
    refProd g codes scales q (ix3 b k r) = elP g codes scales q b k r := by
  have hu := refB_apply g codes scales
  unfold refProd elP
  generalize refB g codes scales = u at *
  pointwise []
  exact Finset.sum_congr rfl fun n _ => congrArg (· * _) (hu _ _ _)

/-- The reference's result, element by element. -/
theorem refP_apply (g : FVec Ideal S2x2048x16384 .bf16) (codes : IVec S2x2048x8192 8) (scales : FVec Ideal S2x2048x128 .f32)
    (q : FVec Ideal S2x16384x256 .bf16) (y : S2x2048x256.Idx) :
    refP g codes scales q y = elP g codes scales q (y 0) (perm (y 1)) (y 2) := by
  have hu := refProd_apply g codes scales q
  unfold refP
  generalize refProd g codes scales q = u at *
  pointwise []
  exact hu (y 0) (perm (y 1)) (y 2)

end Cert.ReferencePIdeal.PPass

end
-- ==== Proof.PPass.Decode.lean ====
/- The codes as the body of `p_pass` unpacks them: the four-bit value at a row and a lane is the signed half of one byte of
   that row. -/
module

public import proofs.«01_k».proof.Proof.PPass.Chunk
public import proofs.«01_k».proof.Proof.PPass.Spec
public import Idealize.ShloMosaic.Lib.BitcastFour

@[expose] public section

set_option maxRecDepth 16384

noncomputable section

namespace Cert.KernelPIdeal.PPass

open Idealize.ShloMosaic Idealize.ShloMosaic.TcCoe Cert.KernelPIdeal.Gen
open Cert.ReferencePIdeal.PPass (nib)

/-- The lane a code is gathered from: lane `l / 2` of the half `h`. -/
theorem lane_src (h : BitVec 32) (hh : h = 0#32 ∨ h = 64#32) : ∀ l : Fin 128,
    (Scalar.select (IntOp.cmpi .slt (IntOp.addi h (IntOp.shrsi .vector (BitVec.ofNat 32 l.val) 1#32)) 0#32)
      (IntOp.addi (IntOp.addi h (IntOp.shrsi .vector (BitVec.ofNat 32 l.val) 1#32)) 128#32)
      (IntOp.addi h (IntOp.shrsi .vector (BitVec.ofNat 32 l.val) 1#32))).toNat % 128 = h.toNat + l.val / 2 := by
  rcases hh with rfl | rfl <;> decide +kernel

/-- How far a gathered word is shifted: 4 in the odd lanes. -/
theorem lane_shift : ∀ l : Fin 128,
    IntOp.shli .vector (IntOp.andi (BitVec.ofNat 32 l.val) 1#32) 2#32 = BitVec.ofNat 32 (4 * (l.val % 2)) := by
  decide +kernel

/-- Words read back as bytes: row `r` is byte `r % 4` of the words of row `r / 4`. -/
theorem back_apply (x : IVec S128x128 32) (r : Fin 512) (l : Fin 128) (q : ℕ) (hq : q < 8) :
    (bitcast S512x128 8 x bitcasts_S128x128_w32_S512x128_w8 (ix2 r l)).getLsbD q
      = (x (ix2 ⟨r.val / 4, by omega⟩ l)).getLsbD (8 * (r.val % 4) + q) := by
  rw [bitcast_getLsbD _ _ _ q hq (by decide)]
  have h1 : ((⟨2, ![512, 128]⟩ : Shape).row (ix2 r l) * 8 + q) / 32 = r.val / 4 := by
    show (r.val * 8 + q) / 32 = r.val / 4
    omega
  have h2 : ((⟨2, ![512, 128]⟩ : Shape).row (ix2 r l) * 8 + q) % 32 = 8 * (r.val % 4) + q := by
    show (r.val * 8 + q) % 32 = _
    omega
  rw [h2]
  congr 2
  funext c
  match c with
  | ⟨0, _⟩ => exact Fin.ext ((Shape.Bitcasts.srcIdx_row _ _ _ _ ⟨0, Nat.zero_lt_two⟩ rfl).trans h1)
  | ⟨1, _⟩ => exact Fin.ext (Shape.Bitcasts.srcIdx_other _ _ _ _ ⟨1, Nat.one_lt_two⟩ (by decide))

/-- Bytes read as words: bit `q` of the word of row `a` is bit `q % 8` of byte row `4 a + q / 8`. -/
theorem bitcast_word (codes : IVec S512x128 8) (a : Fin 128) (l : Fin 128) (q : ℕ) (hq : q < 32) :
    (bitcast S128x128 32 codes bitcasts_S512x128_w8_S128x128_w32 (ix2 a l)).getLsbD q
      = (codes (ix2 ⟨4 * a.val + q / 8, by omega⟩ l)).getLsbD (q % 8) :=
  bitcast_8_32_getLsbD_ix2 codes bitcasts_S512x128_w8_S128x128_w32 a l q hq ⟨4 * a.val + q / 8, by omega⟩ rfl

/-- The words of the gathered and shifted codes. -/
def words (h : BitVec 32) (codes : IVec S512x128 8) : IVec S128x128 32 :=
  let w : IVec S128x128 32 := bitcast S128x128 32 codes bitcasts_S512x128_w8_S128x128_w32
  let lane : IVec S128x128 32 := iota .tc S128x128 32 [1] iota_S128x128_d1_w32
  let src : IVec S128x128 32 := addi (broadcast S128x128 h) (shrsi lane (broadcast S128x128 1#32))
  let src : IVec S128x128 32 :=
    select (cmpi .slt src (broadcast S128x128 0#32)) (addi src (broadcast S128x128 128#32)) src
  let idx : IVec S128x128 32 := shapeCast S128x128 (shapeCast S128x128x1 src shapeCasts_S128x128_S128x128x1)
    shapeCasts_S128x128x1_S128x128
  let d : IVec S128x128 32 := dynamicGather 1 w idx
  shrsi d (shli (andi lane (broadcast S128x128 1#32)) (broadcast S128x128 2#32))

theorem spread_eq (h : BitVec 32) (codes : IVec S512x128 8) : spread (F := Ideal) h codes =
    sitofp .f32 (shrsi (shli (extsi 32 (bitcast S512x128 8 (words h codes) bitcasts_S128x128_w32_S512x128_w8) natLt_8_32)
      (broadcast S512x128 28#32)) (broadcast S512x128 28#32)) := rfl

/-- A shift by 0 or 4 keeps the places of a word, moved down. -/
theorem shift_bit (x : BitVec 32) (o q : ℕ) (ho : o < 2) (hq : q + 4 * o < 32) :
    (IntOp.shrsi .vector x (BitVec.ofNat 32 (4 * o))).getLsbD q = x.getLsbD (q + 4 * o) := by
  have ht : (BitVec.ofNat 32 (4 * o)).toNat = 4 * o := by
    rw [BitVec.toNat_ofNat]; exact Nat.mod_eq_of_lt (by omega)
  unfold IntOp.shrsi
  rw [if_pos (by rw [ht]; omega), BitVec.sshiftRight', ht, BitVec.getLsbD_sshiftRight]
  have h1 : ¬ 32 ≤ q := by omega
  have h2 : 4 * o + q < 32 := by omega
  simp only [h1, h2, decide_false, Bool.not_false, Bool.true_and, if_true]
  congr 1; omega

theorem words_apply (h : BitVec 32) (hh : h = 0#32 ∨ h = 64#32) (codes : IVec S512x128 8) (a : Fin 128) (l : Fin 128) (q : ℕ)
    (hq : q + 4 * (l.val % 2) < 32) (hl : h.toNat + l.val / 2 < 128) :
    (words h codes (ix2 a l)).getLsbD q
      = (codes (ix2 ⟨4 * a.val + (q + 4 * (l.val % 2)) / 8, by omega⟩ ⟨h.toNat + l.val / 2, hl⟩)).getLsbD
          ((q + 4 * (l.val % 2)) % 8) := by
  pointwise [words]
  rw [lane_shift, shift_bit _ _ _ (by omega) hq]
  rw [← bitcast_word codes a ⟨h.toNat + l.val / 2, hl⟩ _ hq]
  congr 3
  exact Fin.ext (lane_src h hh l)

/-- The signed value of a byte's low four bits depends on those bits alone. -/
theorem low_mask : ∀ x : BitVec 8,
    IntOp.shrsi .vector (IntOp.shli .vector (BitVec.signExtend 32 x) 28#32) 28#32 = nib (x &&& 15#8) 0 := by
  decide +kernel

theorem nib_mask : ∀ (o : Fin 2) (x : BitVec 8), nib ((x >>> (4 * o.val)) &&& 15#8) 0 = nib x o.val := by
  decide +kernel

theorem low_eq (x b : BitVec 8) (o : ℕ) (ho : o < 2) (h : ∀ q < 4, x.getLsbD q = b.getLsbD (q + 4 * o)) :
    IntOp.shrsi .vector (IntOp.shli .vector (BitVec.signExtend 32 x) 28#32) 28#32 = nib b o := by
  rw [low_mask, ← nib_mask ⟨o, ho⟩ b]
  congr 1
  apply BitVec.eq_of_getLsbD_eq
  intro q hq
  have h15 : (15#8 : BitVec 8).getLsbD q = decide (q < 4) := by
    interval_cases q <;> rfl
  rw [BitVec.getLsbD_and, BitVec.getLsbD_and, BitVec.getLsbD_ushiftRight, h15]
  by_cases h4 : q < 4
  · rw [h q h4, Nat.add_comm]
  · simp [h4]

/-- The code at a row and a lane: the signed half `l % 2` of the byte in lane `l / 2` of the half `h`. -/
theorem spread_apply (h : BitVec 32) (hh : h = 0#32 ∨ h = 64#32) (codes : IVec S512x128 8) (r : Fin 512) (l : Fin 128)
    (hl : h.toNat + l.val / 2 < 128) :
    spread (F := Ideal) h codes (ix2 r l)
      = FloatOps.sitofp .f32 (nib (codes (ix2 r ⟨h.toNat + l.val / 2, hl⟩)) (l.val % 2)) := by
  rw [spread_eq]
  pointwise []
  refine congrArg (FloatOps.sitofp (F := Ideal) .f32) ?_
  refine low_eq _ _ _ (by omega) fun q hq => ?_
  have hr : r.val % 4 < 4 := by omega
  have h8 : 8 * (r.val % 4) + q + 4 * (l.val % 2) < 32 := by omega
  rw [back_apply _ r l q (by omega), words_apply h hh codes _ l _ h8 hl]
  have e1 : (8 * (r.val % 4) + q + 4 * (l.val % 2)) % 8 = q + 4 * (l.val % 2) := by omega
  have e2 : 4 * (r.val / 4) + (8 * (r.val % 4) + q + 4 * (l.val % 2)) / 8 = r.val := by omega
  exact congrArg₂ (fun (a : Fin 512) (k : ℕ) => (codes (ix2 a ⟨h.toNat + l.val / 2, hl⟩)).getLsbD k) (Fin.ext e2) e1

end Cert.KernelPIdeal.PPass

end
-- ==== Proof.PPass.Runs.lean ====
/- What the run of the body of `p_pass` is stated over: its staging and scratch memrefs, and the block it leaves. -/
module

public import proofs.«01_k».proof.Proof.PPass.Chunk
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelPIdeal.PPass

open Idealize.ShloMosaic Idealize.ShloMosaic.TcCoe Idealize.ShloMosaic.Tactic Cert.KernelPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of the bf16 tile when the rows before 512, 1024, 1536 and 2048 are stored. -/
def bb1 (i : grid0.Coords) (x0 : Vec F S1x2048x1024 .bf16) (x1 : Vec F S1x2048x512 .i8) (x2 : Vec F S1x2048x128 .f32) :
    List (View.Piece (Elt F) S2048x1024 .bf16) := piecesBB i x0 x1 x2 0 (by decide) []
def bb2 (i : grid0.Coords) (x0 : Vec F S1x2048x1024 .bf16) (x1 : Vec F S1x2048x512 .i8) (x2 : Vec F S1x2048x128 .f32) :
    List (View.Piece (Elt F) S2048x1024 .bf16) := piecesBB i x0 x1 x2 512 (by decide) (bb1 i x0 x1 x2)
def bb3 (i : grid0.Coords) (x0 : Vec F S1x2048x1024 .bf16) (x1 : Vec F S1x2048x512 .i8) (x2 : Vec F S1x2048x128 .f32) :
    List (View.Piece (Elt F) S2048x1024 .bf16) := piecesBB i x0 x1 x2 1024 (by decide) (bb2 i x0 x1 x2)
def bb4 (i : grid0.Coords) (x0 : Vec F S1x2048x1024 .bf16) (x1 : Vec F S1x2048x512 .i8) (x2 : Vec F S1x2048x128 .f32) :
    List (View.Piece (Elt F) S2048x1024 .bf16) := piecesBB i x0 x1 x2 1536 (by decide) (bb3 i x0 x1 x2)

theorem inb_row {r : ℕ} (hr : r + 512 ≤ 2048) : ∀ a, (![r, 0] : Fin 2 → ℕ) a + S512x1024.size a ≤ S2048x1024.size a := by
  intro a; fin_cases a
  · exact hr
  · exact le_refl _

theorem inb_p {r : ℕ} (hr : r + 512 ≤ 2048) : ∀ a, (![0, r, 0] : Fin 3 → ℕ) a + S1x512x256.size a ≤ S1x2048x256.size a := by
  intro a; fin_cases a
  · exact le_refl _
  · exact hr
  · exact le_refl _

/-- The 512 rows from `r` of the tile the pieces `L` make. -/
def rowsBB (r : ℕ) (hr : r + 512 ≤ 2048) (L : List (View.Piece (Elt F) S2048x1024 .bf16)) : Vec F S512x1024 .bf16 :=
  fun j => View.canon L ((Rect.unit (s := S2048x1024) ![r, 0] S512x1024.size (inb_row hr)).toLoadRect.idx j)

/-- The piece of the product the body stores for the rows from `r`, over the block it finds. -/
def pPiece (i : grid0.Coords) (r : ℕ) (hr : r + 512 ≤ 2048) (L : List (View.Piece (Elt F) S2048x1024 .bf16))
    (x3 : Vec F S1x1024x256 .bf16) (old : Vec F S1x2048x256 .f32) : View.Piece (Elt F) S1x2048x256 .f32 :=
  ⟨Rect.unit ![0, r, 0] S1x512x256.size (inb_p hr), k0_pay25 (BitVec.ofNat 32 (i 1).val) (rowsBB r hr L) x3
    (fun j => old ((Rect.unit (s := S1x2048x256) ![0, r, 0] S1x512x256.size (inb_p hr)).toLoadRect.idx j))⟩

/-- The four pieces of the product, in the order the stores leave them. -/
def piecesP (i : grid0.Coords) (x0 : Vec F S1x2048x1024 .bf16) (x1 : Vec F S1x2048x512 .i8) (x2 : Vec F S1x2048x128 .f32)
    (x3 : Vec F S1x1024x256 .bf16) (old : Vec F S1x2048x256 .f32) : List (View.Piece (Elt F) S1x2048x256 .f32) :=
  [pPiece i 1536 (by decide) (bb4 i x0 x1 x2) x3 old, pPiece i 1024 (by decide) (bb3 i x0 x1 x2) x3 old,
   pPiece i 512 (by decide) (bb2 i x0 x1 x2) x3 old, pPiece i 0 (by decide) (bb1 i x0 x1 x2) x3 old]

/-- The block of the product the body leaves, over the one it finds. -/
def pStep (i : grid0.Coords) (x0 : Vec F S1x2048x1024 .bf16) (x1 : Vec F S1x2048x512 .i8) (x2 : Vec F S1x2048x128 .f32)
    (x3 : Vec F S1x1024x256 .bf16) (old : Vec F S1x2048x256 .f32) : Vec F S1x2048x256 .f32 :=
  View.canon (piecesP i x0 x1 x2 x3 old)

theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole memref held at the contents that read `X` is `X`. -/
theorem readAt_whole_unread {sig : RefSig} {Val : EltTy → Type} {κ : Kind} {sp : Space} {s : Shape} {e : EltTy}
    {m : Memref sig κ sp s e} (h : m.IsWhole) (X : s.Idx → Val e) {off : Fin s.rank → ℕ} (ho : off = fun _ => 0)
    (inb : ∀ a, off a + s.size a ≤ s.size a) :
    View.readAt Val m.view (Rect.unit off s.size inb).toLoadRect (h.unread X) = X :=
  (readAt_unread h X _).trans (View.ld_unit_zero ho inb X)

/-- What a view reads after stores that tile its shape: the pieces put together. -/
theorem read_writes_tiled {sig : RefSig} {κ : Kind} {sp : Space} {s : Shape} {e : EltTy} (v : View sig κ sp s e)
    (f : v.ty.Contents (Elt F)) (L : List (View.Piece (Elt F) s e)) (size : Fin s.rank → ℕ)
    (h : View.Piece.tiledL L size = true) : v.read (Elt F) (v.writes (Elt F) f L) = View.canon L :=
  View.read_writes_eq_canon _ _ _ fun y => View.cover_of_tiledL L size h y

/-- The staging memref of each window at a point, and that it is whole. -/
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2048x1024 .bf16 := Memref.whole cc0_scratch0

/-- The pipeline's invariant with the scratch buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelPIdeal.PPass

end
-- ==== Proof.PPass.Tile.lean ====
/- The product over the extended reals: the bf16 tile of the momentum with the gradient, in closed form, and what the body
   adds to the block of `P` for it. -/
module

public import proofs.«01_k».proof.Proof.PPass.Decode
public import proofs.«01_k».proof.Proof.PPass.Runs

@[expose] public section

set_option maxRecDepth 16384

noncomputable section

namespace Cert.KernelPIdeal.PPass

open Idealize.ShloMosaic Idealize.ShloMosaic.TcCoe Cert.KernelPIdeal.Gen
open Cert.ReferencePIdeal.PPass (nib perm)
open scoped BigOperators

/-- The momentum with the gradient at row `ρ` and column `n` of a tile, over the staged blocks. -/
def tileB (i : grid0.Coords) (x0 : Vec Ideal S1x2048x1024 .bf16) (x1 : Vec Ideal S1x2048x512 .i8)
    (x2 : Vec Ideal S1x2048x128 .f32) (ρ : Fin 2048) (n : Fin 1024) : Ideal .f32 :=
  FloatOps.sitofp .f32 (nib (x1 (ix3 0 ρ ⟨n.val / 2, by omega⟩)) (n.val % 2))
      * x2 (ix3 0 ρ ⟨(n.val / 128 + 128 - (amount i).toNat % 128) % 128, Nat.mod_lt _ (by decide)⟩)
    + x0 (ix3 0 ρ n)

theorem chunkB_apply (h : BitVec 32) (hh : h = 0#32 ∨ h = 64#32) (o : ℕ) (ho : S512x128.Slices ![0, o] S512x1) (amt : BitVec 32)
    (s : Vec Ideal S1x512x128 .f32) (codes : Vec Ideal S1x512x128 .i8) (g : Vec Ideal S1x512x128 .bf16) (r : Fin 512)
    (l : Fin 128) (hl : h.toNat + l.val / 2 < 128) :
    chunkB h o ho amt s codes g (ix2 r l)
      = FloatOps.sitofp .f32 (nib (codes (ix3 0 r ⟨h.toNat + l.val / 2, hl⟩)) (l.val % 2))
          * s (ix3 0 r ⟨(o + 128 - amt.toNat % 128) % 128, Nat.mod_lt _ (by decide)⟩)
        + g (ix3 0 r l) := by
  have hs := spread_apply h hh (shapeCast S512x128 codes shapeCasts_S1x512x128_S512x128) r l hl
  unfold chunkB
  generalize spread (F := Ideal) h (shapeCast S512x128 codes shapeCasts_S1x512x128_S512x128) = d at *
  pointwise []
  rw [hs]
  pointwise []

theorem interleave_apply (b : FVec Ideal S512x128 .f32) (r : Fin 512) (l : Fin 128) :
    interleave b (ix2 r l) = b (ix2 ⟨r.val / 16 * 16 + r.val % 2 * 8 + r.val / 2 % 8, by omega⟩ l) := by
  unfold interleave
  pointwise []
  split
  · next h => exact congrArg (fun z => b (ix2 z l)) (Fin.ext (by show r.val / 2 / 8 * 16 + r.val / 2 % 8 = _; simp only []; omega))
  · next h => exact congrArg (fun z => b (ix2 z l)) (Fin.ext (by show r.val / 2 / 8 * 16 + (8 + r.val / 2 % 8) = _; simp only []; omega))

/-- One piece of the tile, element by element. -/
theorem piece_apply (i : grid0.Coords) (x0 : Vec Ideal S1x2048x1024 .bf16) (x1 : Vec Ideal S1x2048x512 .i8)
    (x2 : Vec Ideal S1x2048x128 .f32) (r c k o : ℕ) (h : BitVec 32) (hr : r + 512 ≤ 2048) (hc : c + 128 ≤ 1024)
    (hk : k + 128 ≤ 512) (ho : S512x128.Slices ![0, o] S512x1) (hh : h = 0#32 ∨ h = 64#32) (e1 : c = 128 * o)
    (e2 : k + h.toNat = 64 * o) (e3 : r % 16 = 0) (p : Fin 512) (l : Fin 128) :
    interleave (blockOf i (fun r c h z => x0 ((Rect.unit (s := S1x2048x1024) ![0, r, c] S1x512x128.size h).toLoadRect.idx z))
      (fun r c h z => x1 ((Rect.unit (s := S1x2048x512) ![0, r, c] S1x512x128.size h).toLoadRect.idx z))
      (fun r h z => x2 ((Rect.unit (s := S1x2048x128) ![0, r, 0] S1x512x128.size h).toLoadRect.idx z))
      r c k o h hr hc hk ho) (ix2 p l)
      = tileB i x0 x1 x2 (perm ⟨r + p.val, by omega⟩) ⟨c + l.val, by omega⟩ := by
  have hb : h.toNat ≤ 64 := by rcases hh with rfl | rfl <;> decide
  have hl : h.toNat + l.val / 2 < 128 := by omega
  rw [interleave_apply]
  unfold blockOf
  rw [chunkB_apply h hh o ho _ _ _ _ _ l hl]
  unfold tileB
  have er : ∀ q : Fin 512, q.val = p.val / 16 * 16 + p.val % 2 * 8 + p.val / 2 % 8 →
      r + 1 * q.val = (perm ⟨r + p.val, by omega⟩).val := by
    intro q hq; show r + 1 * q.val = (r + p.val) / 16 * 16 + (r + p.val) % 2 * 8 + (r + p.val) / 2 % 8
    have h1 : (r + p.val) / 16 = r / 16 + p.val / 16 := by omega
    have h2 : (r + p.val) % 2 = p.val % 2 := by omega
    have h3 : (r + p.val) / 2 % 8 = p.val / 2 % 8 := by omega
    rw [h1, h2, h3]; omega
  have em : (c + l.val) % 2 = l.val % 2 := by omega
  have eo : (c + l.val) / 128 = o := by omega
  refine congrArg₂ (· + ·) (congrArg₂ (· * ·) (congrArg (FloatOps.sitofp (F := Ideal) .f32) ?_) (congrArg x2 ?_)) (congrArg x0 ?_)
  · refine congrArg₂ nib (congrArg x1 ?_) em.symm
    funext a
    match a with
    | ⟨0, _⟩ => rfl
    | ⟨1, _⟩ => exact Fin.ext (er _ rfl)
    | ⟨2, _⟩ => exact Fin.ext (by show k + 1 * (h.toNat + l.val / 2) = (c + l.val) / 2; omega)
  · funext a
    match a with
    | ⟨0, _⟩ => rfl
    | ⟨1, _⟩ => exact Fin.ext (er _ rfl)
    | ⟨2, _⟩ => exact Fin.ext (by
        show 0 + 1 * ((o + 128 - (amount i).toNat % 128) % 128) = ((c + l.val) / 128 + 128 - (amount i).toNat % 128) % 128
        rw [eo]; omega)
  · funext a
    match a with
    | ⟨0, _⟩ => rfl
    | ⟨1, _⟩ => exact Fin.ext (er _ rfl)
    | ⟨2, _⟩ => exact Fin.ext (by show c + 1 * l.val = c + l.val; omega)

/-- The tile the pieces make, element by element. -/
def tileG (i : grid0.Coords) (x0 : Vec Ideal S1x2048x1024 .bf16) (x1 : Vec Ideal S1x2048x512 .i8)
    (x2 : Vec Ideal S1x2048x128 .f32) : S2048x1024.Idx → Elt Ideal .bf16 := fun y => tileB i x0 x1 x2 (perm (y 0)) (y 1)

theorem pieceOf_apply (i : grid0.Coords) (x0 : Vec Ideal S1x2048x1024 .bf16) (x1 : Vec Ideal S1x2048x512 .i8)
    (x2 : Vec Ideal S1x2048x128 .f32) (r c k o : ℕ) (h : BitVec 32) (hr : r + 512 ≤ 2048) (hc : c + 128 ≤ 1024)
    (hk : k + 128 ≤ 512) (ho : S512x128.Slices ![0, o] S512x1) (hh : h = 0#32 ∨ h = 64#32) (e1 : c = 128 * o)
    (e2 : k + h.toNat = 64 * o) (e3 : r % 16 = 0)
    (p : View.Piece (Elt Ideal) S2048x1024 .bf16)
    (hp : p = pieceOf i (fun r c h z => x0 ((Rect.unit (s := S1x2048x1024) ![0, r, c] S1x512x128.size h).toLoadRect.idx z))
      (fun r c h z => x1 ((Rect.unit (s := S1x2048x512) ![0, r, c] S1x512x128.size h).toLoadRect.idx z))
      (fun r h z => x2 ((Rect.unit (s := S1x2048x128) ![0, r, 0] S1x512x128.size h).toLoadRect.idx z))
      r c k o h hr hc hk ho) (x : p.1.shape.Idx) : p.2 x = tileG i x0 x1 x2 (p.1.emb x) := by
  subst hp
  have e : x = ix2 (x 0) (x 1) := by
    funext a
    match a with
    | ⟨0, _⟩ => rfl
    | ⟨1, _⟩ => rfl
  rw [e]
  refine (piece_apply i x0 x1 x2 r c k o h hr hc hk ho hh e1 e2 e3 (x 0) (x 1)).trans ?_
  refine congrArg₂ (fun a b => tileB i x0 x1 x2 (perm a) b) (Fin.ext ?_) (Fin.ext ?_)
  · show r + (x 0).val = r + 1 * (x 0).val; omega
  · show c + (x 1).val = c + 1 * (x 1).val; omega

/-- Every piece of a list is the tile's. -/
def Good (i : grid0.Coords) (x0 : Vec Ideal S1x2048x1024 .bf16) (x1 : Vec Ideal S1x2048x512 .i8)
    (x2 : Vec Ideal S1x2048x128 .f32)
    (L : List (View.Piece (Elt Ideal) S2048x1024 .bf16)) : Prop :=
  ∀ p ∈ L, ∀ x : p.1.shape.Idx, p.2 x = tileG i x0 x1 x2 (p.1.emb x)

theorem good_cons (i : grid0.Coords) (x0 : Vec Ideal S1x2048x1024 .bf16) (x1 : Vec Ideal S1x2048x512 .i8)
    (x2 : Vec Ideal S1x2048x128 .f32)
    (r : ℕ) (hr : r + 512 ≤ 2048) (e3 : r % 16 = 0) (L : List (View.Piece (Elt Ideal) S2048x1024 .bf16))
    (hL : Good i x0 x1 x2 L) : Good i x0 x1 x2 (piecesBB i x0 x1 x2 r hr L) := by
  intro p hp
  simp only [piecesBB, piecesOf, List.mem_cons] at hp
  rcases hp with hp | hp | hp | hp | hp | hp | hp | hp | hp
  iterate 8 exact fun x => pieceOf_apply i x0 x1 x2 _ _ _ _ _ _ _ _ _ (by decide) (by decide) (by decide) e3 p hp x
  exact hL p hp

theorem good_nil (i : grid0.Coords) (x0 : Vec Ideal S1x2048x1024 .bf16) (x1 : Vec Ideal S1x2048x512 .i8)
    (x2 : Vec Ideal S1x2048x128 .f32) :
    Good i x0 x1 x2 [] := fun p hp => absurd hp List.not_mem_nil

theorem good1 (i : grid0.Coords) (x0 : Vec Ideal S1x2048x1024 .bf16) (x1 : Vec Ideal S1x2048x512 .i8)
    (x2 : Vec Ideal S1x2048x128 .f32) :
    Good i x0 x1 x2 (bb1 i x0 x1 x2) := good_cons i x0 x1 x2 _ _ (by decide) _ (good_nil i x0 x1 x2)
theorem good2 (i : grid0.Coords) (x0 : Vec Ideal S1x2048x1024 .bf16) (x1 : Vec Ideal S1x2048x512 .i8)
    (x2 : Vec Ideal S1x2048x128 .f32) :
    Good i x0 x1 x2 (bb2 i x0 x1 x2) := good_cons i x0 x1 x2 _ _ (by decide) _ (good1 i x0 x1 x2)
theorem good3 (i : grid0.Coords) (x0 : Vec Ideal S1x2048x1024 .bf16) (x1 : Vec Ideal S1x2048x512 .i8)
    (x2 : Vec Ideal S1x2048x128 .f32) :
    Good i x0 x1 x2 (bb3 i x0 x1 x2) := good_cons i x0 x1 x2 _ _ (by decide) _ (good2 i x0 x1 x2)

/-- An index lies in the rectangle of a piece. -/
theorem mem_piece {r : ℕ} (c : ℕ) (hr : r + 512 ≤ 2048) (hc : c + 128 ≤ 1024) (y : S2048x1024.Idx)
    (h1 : r ≤ (y 0).val) (h2 : (y 0).val < r + 512) (h3 : c ≤ (y 1).val) (h4 : (y 1).val < c + 128) :
    y ∈ (Rect.unit (s := S2048x1024) ![r, c] S512x128.size (inb_bb hr hc)).set :=
  Rect.mem_set_unit.mpr fun a => match a with
    | ⟨0, _⟩ => ⟨h1, h2⟩
    | ⟨1, _⟩ => ⟨h3, h4⟩

/-- The eight pieces cover their 512 rows. -/
theorem cover_rows (i : grid0.Coords) (x0 : Vec Ideal S1x2048x1024 .bf16) (x1 : Vec Ideal S1x2048x512 .i8)
    (x2 : Vec Ideal S1x2048x128 .f32)
    (r : ℕ) (hr : r + 512 ≤ 2048) (L : List (View.Piece (Elt Ideal) S2048x1024 .bf16)) (y : S2048x1024.Idx)
    (h1 : r ≤ (y 0).val) (h2 : (y 0).val < r + 512) : ∃ p ∈ piecesBB i x0 x1 x2 r hr L, y ∈ p.1.set := by
  have h3 : (y 1).val < 1024 := (y 1).isLt
  unfold piecesBB piecesOf
  by_cases c7 : 896 ≤ (y 1).val
  · exact ⟨_, .head _, mem_piece 896 hr (by decide) y h1 h2 c7 (by omega)⟩
  by_cases c6 : 768 ≤ (y 1).val
  · exact ⟨_, .tail _ (.head _), mem_piece 768 hr (by decide) y h1 h2 c6 (by omega)⟩
  by_cases c5 : 640 ≤ (y 1).val
  · exact ⟨_, .tail _ (.tail _ (.head _)), mem_piece 640 hr (by decide) y h1 h2 c5 (by omega)⟩
  by_cases c4 : 512 ≤ (y 1).val
  · exact ⟨_, .tail _ (.tail _ (.tail _ (.head _))), mem_piece 512 hr (by decide) y h1 h2 c4 (by omega)⟩
  by_cases c3 : 384 ≤ (y 1).val
  · exact ⟨_, .tail _ (.tail _ (.tail _ (.tail _ (.head _)))), mem_piece 384 hr (by decide) y h1 h2 c3 (by omega)⟩
  by_cases c2 : 256 ≤ (y 1).val
  · exact ⟨_, .tail _ (.tail _ (.tail _ (.tail _ (.tail _ (.head _))))), mem_piece 256 hr (by decide) y h1 h2 c2 (by omega)⟩
  by_cases c1 : 128 ≤ (y 1).val
  · exact ⟨_, .tail _ (.tail _ (.tail _ (.tail _ (.tail _ (.tail _ (.head _)))))), mem_piece 128 hr (by decide) y h1 h2 c1 (by omega)⟩
  · exact ⟨_, .tail _ (.tail _ (.tail _ (.tail _ (.tail _ (.tail _ (.tail _ (.head _))))))),
      mem_piece 0 hr (by decide) y h1 h2 (Nat.zero_le _) (by omega)⟩

/-- The rows the body loads back from the tile. -/
theorem rows_apply (i : grid0.Coords) (x0 : Vec Ideal S1x2048x1024 .bf16) (x1 : Vec Ideal S1x2048x512 .i8)
    (x2 : Vec Ideal S1x2048x128 .f32)
    (r : ℕ) (hr : r + 512 ≤ 2048) (e3 : r % 16 = 0) (L : List (View.Piece (Elt Ideal) S2048x1024 .bf16))
    (hL : Good i x0 x1 x2 L) (p : Fin 512) (n : Fin 1024) :
    rowsBB r hr (piecesBB i x0 x1 x2 r hr L) (ix2 p n) = tileB i x0 x1 x2 (perm ⟨r + p.val, by omega⟩) n := by
  have hp := p.isLt
  refine (View.canon_apply_of_pieces (tileG i x0 x1 x2) _ (good_cons i x0 x1 x2 r hr e3 L hL) _
    (cover_rows i x0 x1 x2 r hr L _ ?_ ?_)).trans ?_
  · show r ≤ r + 1 * p.val; omega
  · show r + 1 * p.val < r + 512; omega
  · refine congrArg₂ (fun a b => tileB i x0 x1 x2 (perm a) b) (Fin.ext ?_) (Fin.ext ?_)
    · show r + 1 * p.val = r + p.val; omega
    · show 0 + 1 * n.val = n.val; omega

/-- What the body stores for 512 rows: their product with `Q`'s block, added to the block found but at tile 0. -/
theorem pay25_apply (a : BitVec 32) (v : Vec Ideal S512x1024 .bf16) (q : Vec Ideal S1x1024x256 .bf16)
    (o : Vec Ideal S1x512x256 .f32) (p : Fin 512) (r : Fin 256) :
    k0_pay25 a v q o (ix3 0 p r) = if a = 0#32 then ∑ n : Fin 1024, v (ix2 p n) * q (ix3 0 n r)
      else o (ix3 0 p r) + ∑ n : Fin 1024, v (ix2 p n) * q (ix3 0 n r) := by
  by_cases h : a = 0#32
  · subst h
    rw [if_pos rfl]
    have e : Scalar.cmpi .eq 0#32 0#32 = 1#1 := rfl
    pointwise [k0_pay25, e]
  · rw [if_neg h]
    have e : Scalar.cmpi .eq a 0#32 = 0#1 := by
      show BitVec.ofBool (a == 0#32) = 0#1
      rw [beq_eq_false_iff_ne.mpr h]; rfl
    pointwise [k0_pay25, e]

/-- The block of the product after a point. -/
def stepG (i : grid0.Coords) (x0 : Vec Ideal S1x2048x1024 .bf16) (x1 : Vec Ideal S1x2048x512 .i8)
    (x2 : Vec Ideal S1x2048x128 .f32)
    (x3 : Vec Ideal S1x1024x256 .bf16) (old : Vec Ideal S1x2048x256 .f32) (y : S1x2048x256.Idx) : Ideal .f32 :=
  if BitVec.ofNat 32 (i 1).val = 0#32 then
    ∑ n : Fin 1024, tileB i x0 x1 x2 (perm (y 1)) n * x3 (ix3 0 n (y 2))
  else old y + ∑ n : Fin 1024, tileB i x0 x1 x2 (perm (y 1)) n * x3 (ix3 0 n (y 2))

/-- One piece of the product. -/
theorem pPiece_apply (i : grid0.Coords) (x0 : Vec Ideal S1x2048x1024 .bf16) (x1 : Vec Ideal S1x2048x512 .i8)
    (x2 : Vec Ideal S1x2048x128 .f32)
    (x3 : Vec Ideal S1x1024x256 .bf16) (old : Vec Ideal S1x2048x256 .f32)
    (r : ℕ) (hr : r + 512 ≤ 2048) (e3 : r % 16 = 0) (L : List (View.Piece (Elt Ideal) S2048x1024 .bf16))
    (hL : Good i x0 x1 x2 L) (p : View.Piece (Elt Ideal) S1x2048x256 .f32)
    (hp : p = pPiece i r hr (piecesBB i x0 x1 x2 r hr L) x3 old) (x : p.1.shape.Idx) :
    p.2 x = stepG i x0 x1 x2 x3 old (p.1.emb x) := by
  subst hp
  have hrow := rows_apply i x0 x1 x2 r hr e3 L hL
  have h1 : (x 1).val < 512 := (x 1).isLt
  have e : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have hy : (Rect.unit (s := S1x2048x256) ![0, r, 0] S1x512x256.size (inb_p hr)).emb (ix3 0 (x 1) (x 2))
      = ix3 0 ⟨r + (x 1).val, by omega⟩ (x 2) := by
    funext a
    match a with
    | ⟨0, _⟩ => rfl
    | ⟨1, _⟩ => exact Fin.ext (by show r + 1 * (x 1).val = r + (x 1).val; omega)
    | ⟨2, _⟩ => exact Fin.ext (by show 0 + 1 * (x 2).val = (x 2).val; omega)
  rw [e]
  refine (pay25_apply _ _ _ _ (x 1) (x 2)).trans (Eq.trans ?_ (congrArg (stepG i x0 x1 x2 x3 old) hy.symm))
  have hs : (∑ n : Fin 1024, rowsBB r hr (piecesBB i x0 x1 x2 r hr L) (ix2 (x 1) n) * x3 (ix3 0 n (x 2)))
      = ∑ n : Fin 1024, tileB i x0 x1 x2 (perm ⟨r + (x 1).val, by omega⟩) n * x3 (ix3 0 n (x 2)) :=
    Finset.sum_congr rfl fun n _ => congrArg (fun z : Ideal .f32 => z * x3 (ix3 0 n (x 2))) (hrow (x 1) n)
  unfold stepG
  split
  · exact hs
  · exact congrArg₂ (fun a b : Ideal .f32 => a + b) (congrArg old hy) hs

/-- The block of the product after a point, element by element. -/
theorem pStep_apply (i : grid0.Coords) (x0 : Vec Ideal S1x2048x1024 .bf16) (x1 : Vec Ideal S1x2048x512 .i8)
    (x2 : Vec Ideal S1x2048x128 .f32)
    (x3 : Vec Ideal S1x1024x256 .bf16) (old : Vec Ideal S1x2048x256 .f32) (y : S1x2048x256.Idx) :
    pStep i x0 x1 x2 x3 old y = stepG i x0 x1 x2 x3 old y := by
  refine View.canon_apply_of_pieces (stepG i x0 x1 x2 x3 old) (piecesP i x0 x1 x2 x3 old) ?_ y
    (View.cover_of_tiledL (piecesP i x0 x1 x2 x3 old) S1x512x256.size (by rfl) y)
  intro p hp
  simp only [piecesP, List.mem_cons, List.not_mem_nil, or_false] at hp
  rcases hp with hp | hp | hp | hp
  · exact pPiece_apply i x0 x1 x2 x3 old _ _ (by decide) _ (good3 i x0 x1 x2) p hp
  · exact pPiece_apply i x0 x1 x2 x3 old _ _ (by decide) _ (good2 i x0 x1 x2) p hp
  · exact pPiece_apply i x0 x1 x2 x3 old _ _ (by decide) _ (good1 i x0 x1 x2) p hp
  · exact pPiece_apply i x0 x1 x2 x3 old _ _ (by decide) _ (good_nil i x0 x1 x2) p hp

end Cert.KernelPIdeal.PPass

end
-- ==== Proof.PPass.RunA.lean ====
/- The run of the body of `p_pass` at any point. -/
module

public import proofs.«01_k».proof.Proof.PPass.Runs

@[expose] public section

set_option maxRecDepth 16384

noncomputable section

namespace Cert.KernelPIdeal.PPass

open Idealize.ShloMosaic Idealize.ShloMosaic.TcCoe Idealize.ShloMosaic.Tactic Cert.KernelPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at any point: it leaves the block of the product over the one it finds, and the scratch at contents not named here. -/
theorem run_A (c : Dev nD) (i : grid0.Coords) (arg2 : Memref sig .tc .vmem S1x2048x1024 .bf16) (harg2 : arg2.IsWhole) (arg3 : Memref sig .tc .vmem S1x2048x512 .i8) (harg3 : arg3.IsWhole) (arg4 : Memref sig .tc .vmem S1x2048x128 .f32) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1024 .bf16) (harg7 : arg7.IsWhole)
    (x0 : Vec F S1x2048x1024 .bf16) (x1 : Vec F S1x2048x512 .i8) (x2 : Vec F S1x2048x128 .f32) (x3 : Vec F S1x1024x256 .bf16) (x4 : Vec F S1x2048x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (pStep i x0 x1 x2 x3 x4) ∗ (∃ d, owns (c : Thread nD τ) arg7 fullShare d)) -∗ K ⟨⟩))
          ⊢ wp frame (wpE (defs₀ (F := F)) Variants.none c none) E (cc0_p_pass i arg2 harg2 arg3 harg3 arg4 harg4 arg5 harg5 arg6 harg6 arg7 harg7) K := by
    intro E K
    simp only [cc0_p_pass_eq_skeleton]; unfold cc0_p_pass_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    have hL1 : run_A.sl.HS0_8 c i arg2 harg2 arg3 harg3 arg4 harg4 x0 x1 x2 = bb1 i x0 x1 x2 := by
      unfold bb1
      rw [← piecesOf_readAt i harg2 harg3 harg4 x0 x1 x2]
      dsimp only [run_A.sl.HS0_8, k0_pay24, run_A.sl.v14, run_A.sl.v13, run_A.sl.v11, run_A.sl.v10, run_A.sl.v8, run_A.sl.v6,
        run_A.sl.v3, run_A.sl.v2, run_A.sl.v7, run_A.sl.v12, run_A.sl.v1, run_A.sl.r_9, k0_pay23, run_A.sl.r_7,
        k0_pay19, k0_pay22, run_A.sl.r_8, k0_pay20, k0_pay21, k0_pay18, run_A.sl.r_6, k0_pay17, run_A.sl.r_4,
        k0_pay14, k0_pay16, run_A.sl.r_5, k0_pay15, k0_pay13, run_A.sl.r_3, k0_pay12, run_A.sl.r_1, k0_pay9,
        k0_pay11, run_A.sl.r_2, k0_pay10, k0_pay8, run_A.sl.r, k0_pay6, run_A.sl.v16, k0_pay7, k0_pay5, run_A.sl.v37,
        run_A.sl.v36, run_A.sl.v35, run_A.sl.v30, run_A.sl.v17, run_A.sl.v29, run_A.sl.v27, run_A.sl.v22,
        run_A.sl.v21, run_A.sl.v18, run_A.sl.v19, run_A.sl.v25, run_A.sl.v34, run_A.sl.v33, piecesOf, pieceOf,
        blockOf, interleave, chunkB, spread, amount]
      rfl
    have hL2 : run_A.sl.HS0_16 c i arg2 harg2 arg3 harg3 arg4 harg4 x0 x1 x2 = bb2 i x0 x1 x2 := by
      unfold bb2
      rw [← hL1]
      rw [← piecesOf_readAt i harg2 harg3 harg4 x0 x1 x2]
      dsimp only [run_A.sl.HS0_16, k0_pay48, run_A.sl.v393, run_A.sl.v13, run_A.sl.v11, run_A.sl.v10, run_A.sl.v8, run_A.sl.v6,
        run_A.sl.v3, run_A.sl.v2, run_A.sl.v7, run_A.sl.v12, run_A.sl.v380, run_A.sl.r_19, k0_pay47, run_A.sl.r_17,
        k0_pay44, k0_pay46, run_A.sl.r_18, k0_pay45, k0_pay43, run_A.sl.r_16, k0_pay42, run_A.sl.r_14, k0_pay38,
        k0_pay41, run_A.sl.r_15, k0_pay39, k0_pay40, k0_pay37, run_A.sl.r_13, k0_pay35, run_A.sl.r_11, k0_pay32,
        k0_pay36, k0_pay34, run_A.sl.r_12, k0_pay33, k0_pay31, run_A.sl.r_10, k0_pay30, run_A.sl.v395, k0_pay29,
        run_A.sl.v418, run_A.sl.v416, run_A.sl.v415, run_A.sl.v414, run_A.sl.v409, run_A.sl.v396, run_A.sl.v29,
        run_A.sl.v27, run_A.sl.v22, run_A.sl.v21, run_A.sl.v18, run_A.sl.v19, run_A.sl.v25, run_A.sl.v34,
        run_A.sl.v33, run_A.sl.v417, piecesOf, pieceOf, blockOf, interleave, chunkB, spread, amount]
      rfl
    have hL3 : run_A.sl.HS0_24 c i arg2 harg2 arg3 harg3 arg4 harg4 x0 x1 x2 = bb3 i x0 x1 x2 := by
      unfold bb3
      rw [← hL2]
      rw [← piecesOf_readAt i harg2 harg3 harg4 x0 x1 x2]
      dsimp only [run_A.sl.HS0_24, k0_pay75, run_A.sl.r_21, k0_pay51, run_A.sl.r_20, k0_pay50, run_A.sl.r_36, k0_pay74,
        run_A.sl.r_34, k0_pay70, k0_pay73, run_A.sl.r_35, k0_pay71, k0_pay72, k0_pay69, run_A.sl.r_32, k0_pay67,
        run_A.sl.r_30, k0_pay64, run_A.sl.r_33, k0_pay68, k0_pay66, run_A.sl.r_31, k0_pay65, k0_pay63, run_A.sl.r_28,
        k0_pay61, run_A.sl.r_26, k0_pay58, run_A.sl.r_29, k0_pay62, k0_pay60, run_A.sl.r_27, k0_pay59, k0_pay57,
        run_A.sl.r_25, k0_pay56, run_A.sl.r_22, k0_pay52, k0_pay55, run_A.sl.r_23, k0_pay53, run_A.sl.r_24, k0_pay54,
        piecesOf, pieceOf, blockOf, interleave, chunkB, spread, amount]
    have hL4 : run_A.sl.HS0_32 c i arg2 harg2 arg3 harg3 arg4 harg4 x0 x1 x2 = bb4 i x0 x1 x2 := by
      unfold bb4
      rw [← hL3]
      rw [← piecesOf_readAt i harg2 harg3 harg4 x0 x1 x2]
      dsimp only [run_A.sl.HS0_32, k0_pay99, run_A.sl.r_52, k0_pay98, run_A.sl.r_38, k0_pay78, run_A.sl.r_37, k0_pay77,
        run_A.sl.v3, run_A.sl.v2, run_A.sl.r_49, k0_pay94, k0_pay97, run_A.sl.r_50, k0_pay95, run_A.sl.r_51,
        k0_pay96, k0_pay93, run_A.sl.r_48, k0_pay92, run_A.sl.r_46, k0_pay89, k0_pay91, run_A.sl.r_47, k0_pay90,
        k0_pay88, run_A.sl.r_45, k0_pay87, run_A.sl.r_43, k0_pay84, k0_pay86, run_A.sl.r_44, k0_pay85, k0_pay83,
        run_A.sl.r_41, k0_pay82, run_A.sl.r_39, k0_pay79, run_A.sl.r_42, k0_pay81, run_A.sl.r_40, k0_pay80, piecesOf,
        pieceOf, blockOf, interleave, chunkB, spread, amount]
    have hv1 : run_A.sl.v367 c i arg2 harg2 arg3 harg3 arg4 harg4 arg7 x0 x1 x2 = rowsBB 0 (by decide) (bb1 i x0 x1 x2) := by
      unfold run_A.sl.v367; rw [hL1]; exact View.readCov_eq_canon' _ _ _
    have hv2 : run_A.sl.v746 c i arg2 harg2 arg3 harg3 arg4 harg4 arg7 x0 x1 x2 = rowsBB 512 (by decide) (bb2 i x0 x1 x2) := by
      unfold run_A.sl.v746; rw [hL2]; exact View.readCov_eq_canon' _ _ _
    have hv3 : run_A.sl.v1125 c i arg2 harg2 arg3 harg3 arg4 harg4 arg7 x0 x1 x2 = rowsBB 1024 (by decide) (bb3 i x0 x1 x2) := by
      unfold run_A.sl.v1125; rw [hL3]; exact View.readCov_eq_canon' _ _ _
    have hv4 : run_A.sl.v1504 c i arg2 harg2 arg3 harg3 arg4 harg4 arg7 x0 x1 x2 = rowsBB 1536 (by decide) (bb4 i x0 x1 x2) := by
      unfold run_A.sl.v1504; rw [hL4]; exact View.readCov_eq_canon' _ _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_writes_tiled arg6.view (harg6.unread x4) _ S1x512x256.size ?_).trans ?_
      · rfl
      rw [hv1, hv2, hv3, hv4, readAt_whole_unread harg5 x3 zeros3]
      dsimp only [run_A.sl.v751, run_A.sl.v1130, run_A.sl.v1509]
      simp only [readAt_unread harg6 x4]
      rfl
    iexists _, _; isplitr; swap; · iexact HS0
    ipureintro; rfl

end Cert.KernelPIdeal.PPass

end
-- ==== Proof.PPass.Frame.lean ====
/- The launch of `p_pass`: the block of the product point by point, the body obligation, the run and the frame. -/
module

public import proofs.«01_k».proof.Proof.PPass.RunA
public import Idealize.ShloMosaic.Lib.Claim

@[expose] public section

set_option maxRecDepth 16384

noncomputable section

namespace Cert.KernelPIdeal.PPass

open Idealize.ShloMosaic Idealize.ShloMosaic.TcCoe Idealize.ShloMosaic.Tactic Cert.KernelPIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as launched, from a launch whose proof data starts from the region-entry contents. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- No output window is left unnamed. -/
def forgets0 : Fin 5 → Bool := fun _ => false
theorem forgets0_4 : forgets0 (4 : Fin 5) = false := rfl

/-- The block of the product after point `t`, over the one before. -/
def pNext (c : Dev nD) (t : Fin cfg0.N) (old : Vec F S1x2048x256 .f32) : Vec F S1x2048x256 .f32 :=
  pStep (grid0.coords t) (iblk m c 0 t) (iblk m c 1 t) (iblk m c 2 t) (iblk m c 3 t) old

theorem pay25_zero (v : Vec F S512x1024 .bf16) (q : Vec F S1x1024x256 .bf16) (o o' : Vec F S1x512x256 .f32) :
    k0_pay25 0#32 v q o = k0_pay25 0#32 v q o' := rfl

theorem coord1 : ∀ t : Fin cfg0.N, (grid0.coords t 1).val = t.val % 16 := (by decide +kernel : ∀ t : Fin grid0.N, _)

/-- At the first point of a batch the block found does not matter. -/
theorem pNext_reset (c : Dev nD) (t : Fin cfg0.N) (h : t.val % 16 = 0) (o o' : Vec F S1x2048x256 .f32) :
    pNext m c t o = pNext m c t o' := by
  have e : BitVec.ofNat 32 (grid0.coords t 1).val = 0#32 := by rw [coord1, h]
  unfold pNext pStep piecesP pPiece
  rw [e]
  exact congrArg View.canon (congr (congrArg List.cons (congrArg (Sigma.mk _) (pay25_zero _ _ _ _)))
    (congr (congrArg List.cons (congrArg (Sigma.mk _) (pay25_zero _ _ _ _)))
      (congr (congrArg List.cons (congrArg (Sigma.mk _) (pay25_zero _ _ _ _)))
        (congr (congrArg List.cons (congrArg (Sigma.mk _) (pay25_zero _ _ _ _))) rfl))))

/-- The block of the product point by point: begun anew at the first point of a batch. -/
def pAt (c : Dev nD) : (n : ℕ) → n < cfg0.N → Vec F S1x2048x256 .f32
  | 0, h => pNext m c ⟨0, h⟩ (constant S1x2048x256 .f32 0x00000000#32)
  | n + 1, h => if (n + 1) % 16 = 0 then pNext m c ⟨n + 1, h⟩ (constant S1x2048x256 .f32 0x00000000#32)
      else pNext m c ⟨n + 1, h⟩ (pAt c n (Nat.lt_of_succ_lt h))

theorem pAt_A (c : Dev nD) (t : Fin cfg0.N) (h : t.val % 16 = 0) (o : Vec F S1x2048x256 .f32) :
    pAt m c t.val t.isLt = pNext m c t o := by
  rw [pNext_reset m c t h o (constant S1x2048x256 .f32 0x00000000#32)]
  obtain ⟨n, hn⟩ := t
  cases n with
  | zero => rfl
  | succ n => exact if_pos h

theorem pAt_B (c : Dev nD) (t : Fin cfg0.N) (h : ¬t.val % 16 = 0) :
    pAt m c t.val t.isLt = pNext m c t (pAt m c (t.val - 1) (Nat.lt_of_le_of_lt (Nat.sub_le _ _) t.isLt)) := by
  obtain ⟨n, hn⟩ := t
  cases n with
  | zero => exact absurd rfl h
  | succ n => exact if_neg h

/-- The proof data of the pipeline on core `c`: the arrays as the region finds them; after the body at point `t` each
    input's buffer at its block, the product's at the value above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pAt m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = pAt m c t.val t.isLt := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point that is not a batch's first, the product's staging buffer holds what the point before left. -/
theorem before0_4_B (c : Dev nD) (t : Fin cfg0.N) (h : ¬t.val % 16 = 0) (d) :
    (dats m 0 c).before 4 t d = pAt m c (t.val - 1) (Nat.lt_of_le_of_lt (Nat.sub_le _ _) t.isLt) := by
  have h0 : t.val ≠ 0 := fun e => h (by rw [e])
  have hf : (cfg0.win 4).flush ⟨t.val - 1, Nat.lt_of_le_of_lt (Nat.sub_le _ _) t.isLt⟩ = false := by
    rw [Bool.eq_false_iff]; intro hf
    have := (flush0_4 _).mp hf
    simp only at this
    omega
  rw [(dats m 0 c).before_out_kept 4 rfl t h0 hf (fun _ => rfl) (fun _ _ => rfl) d, after0_4]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  by_cases h0 : t.val % 16 = 0
  · iintro ⟨⟨HS0, Hg⟩, Ho, ⟨%d0, H0⟩, ⟨%d1, H1⟩, ⟨%d2, H2⟩, ⟨%d3, H3⟩, ⟨%d4, H4⟩⟩
    rw [pAt_A m c t h0 ((dats m 0 c).before 4 t d4)]
    unfold pNext
    iapply ((run_A c (grid0.coords t) _ _ _ _ _ _ _ _ _ _ _ _ (iblk m c 0 t) (iblk m c 1 t) (iblk m c 2 t) (iblk m c 3 t) ((dats m 0 c).before 4 t d4)) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [pAt_B m c t h0]
    simp only [before0_4_B m c t h0]
    unfold pNext
    iintro ⟨⟨HS0, Hg⟩, Ho, ⟨%d0, H0⟩, ⟨%d1, H1⟩, ⟨%d2, H2⟩, ⟨%d3, H3⟩, ⟨%d4, H4⟩⟩
    iapply ((run_A c (grid0.coords t) _ _ _ _ _ _ _ _ _ _ _ _ (iblk m c 0 t) (iblk m c 1 t) (iblk m c 2 t) (iblk m c 3 t) (pAt m c (t.val - 1) (Nat.lt_of_le_of_lt (Nat.sub_le _ _) t.isLt))) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the arrays end as the proof data says, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf m ρ (fun c => (dats m 0 c).toRForget forgets0) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelPIdeal.PPass

end
-- ==== Proof.PPass.Points.lean ====
/- The staged blocks of `p_pass` as blocks of the arrays, and what each point adds to the block of `P`, over the
   extended reals. -/
module

public import proofs.«01_k».proof.Proof.PPass.Tile
public import proofs.«01_k».proof.Proof.PPass.Frame

@[expose] public section

set_option maxRecDepth 16384

noncomputable section

namespace Cert.KernelPIdeal.PPass

open Idealize.ShloMosaic Idealize.ShloMosaic.TcCoe Idealize.SL.Sem Cert.KernelPIdeal Cert.KernelPIdeal.Gen
open Idealize.ShloMosaic.Pipeline (Dat)
open Cert.ReferencePIdeal.PPass
open scoped BigOperators

variable (m : (ℓ : Loc nD τ sig) → Buf (Elt Ideal) ℓ)

/-- Every window's block at every point: batch `t / 16`, tile `t % 16`. -/
theorem idx_val : ∀ t : Fin cfg0.N, win0_0.index t = ![t.val / 16, 0, t.val % 16]
    ∧ win0_1.index t = ![t.val / 16, 0, t.val % 16]
    ∧ win0_2.index t = ![t.val / 16, 0, 0]
    ∧ win0_3.index t = ![t.val / 16, t.val % 16, 0]
    ∧ win0_4.index t = ![t.val / 16, 0, 0] :=
  (by decide +kernel : ∀ t : Fin grid0.N, _)

theorem amount_eq : ∀ t : Fin cfg0.N, (amount (grid0.coords t)).toNat = (128 - 8 * (t.val % 16)) % 128 :=
  (by decide +kernel : ∀ t : Fin grid0.N, _)

theorem points (t : Fin cfg0.N) : t.val < 32 := t.isLt

/-- The batch of a point. -/
def bat (t : Fin cfg0.N) : Fin 2 := ⟨t.val / 16, by have := points t; omega⟩

/-- The tile of a point. -/
def til (t : Fin cfg0.N) : ℕ := t.val % 16

theorem til_lt (t : Fin cfg0.N) : til t < 16 := by unfold til; omega

theorem iblk0 (c : Dev nD) (t : Fin cfg0.N) (ρ : Fin 2048) (n : Fin 1024) :
    iblk m c 0 t (ix3 0 ρ n) = m ((c : Thread nD τ).loc main_arg0)
      (ix3 (bat t) ρ ⟨1024 * til t + n.val, by have := til_lt t; omega⟩) := by
  unfold bat til
  blk_point [iblk, V, idx_val t]

theorem iblk1 (c : Dev nD) (t : Fin cfg0.N) (ρ : Fin 2048) (n : Fin 512) :
    iblk m c 1 t (ix3 0 ρ n) = m ((c : Thread nD τ).loc main_arg1)
      (ix3 (bat t) ρ ⟨512 * til t + n.val, by have := til_lt t; omega⟩) := by
  unfold bat til
  blk_point [iblk, V, idx_val t]

theorem iblk2 (c : Dev nD) (t : Fin cfg0.N) (ρ : Fin 2048) (n : Fin 128) :
    iblk m c 2 t (ix3 0 ρ n) = m ((c : Thread nD τ).loc main_arg2) (ix3 (bat t) ρ n) := by
  unfold bat
  blk_point [iblk, V, idx_val t]

theorem iblk3 (c : Dev nD) (t : Fin cfg0.N) (n : Fin 1024) (r : Fin 256) :
    iblk m c 3 t (ix3 0 n r) = m ((c : Thread nD τ).loc main_arg3)
      (ix3 (bat t) ⟨1024 * til t + n.val, by have := til_lt t; omega⟩ r) := by
  unfold bat til
  blk_point [iblk, V, idx_val t]

/-- The staged tile of the momentum with the gradient is the array's. -/
theorem tileB_eq (c : Dev nD) (t : Fin cfg0.N) (ρ : Fin 2048) (n : Fin 1024) :
    tileB (grid0.coords t) (iblk m c 0 t) (iblk m c 1 t) (iblk m c 2 t) ρ n
      = momB (m ((c : Thread nD τ).loc main_arg0)) (m ((c : Thread nD τ).loc main_arg1)) (m ((c : Thread nD τ).loc main_arg2))
          (bat t) ρ ⟨1024 * til t + n.val, by have := til_lt t; omega⟩ := by
  have ht := til_lt t
  unfold tileB momB
  refine congrArg₂ (· + ·) (congrArg₂ (· * ·) (congrArg (FloatOps.sitofp (F := Ideal) .f32) ?_) ?_) (iblk0 m c t ρ n)
  · refine congrArg₂ nib ((iblk1 m c t ρ _).trans (congrArg (fun z => m ((c : Thread nD τ).loc main_arg1) (ix3 (bat t) ρ z)) ?_)) ?_
    · exact Fin.ext (by show 512 * til t + n.val / 2 = (1024 * til t + n.val) / 2; omega)
    · show n.val % 2 = (1024 * til t + n.val) % 2; omega
  · refine (iblk2 m c t ρ _).trans (congrArg (fun z => m ((c : Thread nD τ).loc main_arg2) (ix3 (bat t) ρ z)) ?_)
    refine Fin.ext ?_
    show (n.val / 128 + 128 - (amount (grid0.coords t)).toNat % 128) % 128 = (1024 * til t + n.val) / 128
    rw [amount_eq]
    show (n.val / 128 + 128 - (128 - 8 * til t) % 128 % 128) % 128 = _
    omega

/-- What a point adds to the block of `P`: the product of its tile with its rows of `Q`. -/
def addend (c : Dev nD) (t : Fin cfg0.N) (y : S1x2048x256.Idx) : Ideal .f32 :=
  ∑ n : Fin 1024, momB (m ((c : Thread nD τ).loc main_arg0)) (m ((c : Thread nD τ).loc main_arg1))
      (m ((c : Thread nD τ).loc main_arg2)) (bat t) (perm (y 1)) ⟨1024 * til t + n.val, by have := til_lt t; omega⟩
    * m ((c : Thread nD τ).loc main_arg3) (ix3 (bat t) ⟨1024 * til t + n.val, by have := til_lt t; omega⟩ (y 2))

theorem zero_word : ∀ t : Fin cfg0.N, (BitVec.ofNat 32 (grid0.coords t 1).val = 0#32) ↔ t.val % 16 = 0 :=
  (by decide +kernel : ∀ t : Fin grid0.N, _)

/-- The block of `P` after a point, element by element. -/
theorem pNext_apply (c : Dev nD) (t : Fin cfg0.N) (old : Vec Ideal S1x2048x256 .f32) (y : S1x2048x256.Idx) :
    pNext m c t old y = if t.val % 16 = 0 then addend m c t y else old y + addend m c t y := by
  have hs : (∑ n : Fin 1024, tileB (grid0.coords t) (iblk m c 0 t) (iblk m c 1 t) (iblk m c 2 t) (perm (y 1)) n
      * iblk m c 3 t (ix3 0 n (y 2))) = addend m c t y :=
    Finset.sum_congr rfl fun n _ =>
      congrArg₂ (fun a b : Ideal .f32 => a * b) (tileB_eq m c t (perm (y 1)) n) (iblk3 m c t n (y 2))
  refine (pStep_apply (grid0.coords t) (iblk m c 0 t) (iblk m c 1 t) (iblk m c 2 t) (iblk m c 3 t) old y).trans ?_
  unfold stepG
  by_cases h : t.val % 16 = 0
  · rw [if_pos h, if_pos ((zero_word t).mpr h)]
    exact hs
  · rw [if_neg h, if_neg (fun h' => h ((zero_word t).mp h'))]
    exact congrArg (fun z : Ideal .f32 => old y + z) hs

end Cert.KernelPIdeal.PPass

end
-- ==== Proof.PPass.Finals.lean ====
/- What the launch of `p_pass` leaves in its result, over the extended reals: the reference's product. -/
module

public import proofs.«01_k».proof.Proof.PPass.Points

@[expose] public section

set_option maxRecDepth 16384

noncomputable section

namespace Cert.KernelPIdeal.PPass

open Idealize.ShloMosaic Idealize.ShloMosaic.TcCoe Idealize.SL.Sem Cert.KernelPIdeal Cert.KernelPIdeal.Gen
open Idealize.ShloMosaic.Pipeline (Dat)
open Cert.ReferencePIdeal.PPass
open scoped BigOperators

variable (m : (ℓ : Loc nD τ sig) → Buf (Elt Ideal) ℓ)

/-- The block of `P` after a batch's last point. -/
theorem pAt_last (c : Dev nD) (t : Fin cfg0.N) (h : t.val % 16 = 15) (y : S1x2048x256.Idx) :
    pAt m c t.val t.isLt y = elP (m ((c : Thread nD τ).loc main_arg0)) (m ((c : Thread nD τ).loc main_arg1))
      (m ((c : Thread nD τ).loc main_arg2)) (m ((c : Thread nD τ).loc main_arg3)) (bat t) (perm (y 1)) (y 2) := by
  have ht := points t
  refine (Pipeline.eq_sum_fin_of_reset_step_apply_of_flush (fun n hn => pAt m c n hn) 16 (fun _ => (0 : Ideal .f32)) (addend m c)
    (fun t h i => ?_) (fun t h i => ?_) t h y).trans ?_
  · show pAt m c t.val t.isLt i = _
    rw [pAt_A m c t h (constant (F := Ideal) S1x2048x256 .f32 0x00000000#32), pNext_apply, if_pos h, zero_add]
  · show pAt m c t.val t.isLt i = pAt m c (t.val - 1) _ i + _
    rw [pAt_B m c t h, pNext_apply, if_neg h]
  · rw [zero_add]
    unfold elP
    rw [Fin.sum_univ_tiles 16 1024 rfl]
    refine Finset.sum_congr rfl fun j _ => ?_
    unfold addend
    refine Finset.sum_congr rfl fun n _ => ?_
    refine congrArg₂ (fun (b : Fin 2) (k : Fin 16384) => momB (m ((c : Thread nD τ).loc main_arg0))
      (m ((c : Thread nD τ).loc main_arg1)) (m ((c : Thread nD τ).loc main_arg2)) b (perm (y 1)) k
        * m ((c : Thread nD τ).loc main_arg3) (ix3 b k (y 2))) (Fin.ext ?_) (Fin.ext ?_)
    · show (16 * (t.val / 16) + j.val) / 16 = t.val / 16; omega
    · show 1024 * ((16 * (t.val / 16) + j.val) % 16) + n.val = j.val * 1024 + n.val
      have : (16 * (t.val / 16) + j.val) % 16 = j.val := by omega
      rw [this]; omega

/-- The result after the launch: the reference's. -/
theorem final_4 (c : Dev nD) : (dats m 0 c).arrAt 4 (cfgs 0).N = refP (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  refine (pAt_last m c t ((flush0_4 t).mp hf) y).trans ((refP_apply _ _ _ _ _).trans ?_).symm
  refine congr (congr (congrArg (elP _ _ _ _) (Fin.ext ?_)) (congrArg perm (Fin.ext ?_))) (Fin.ext ?_)
  · blk_simp [idx_val t]
    rfl
  · blk_simp [idx_val t]
    try (show 0 * 2048 + (y 1).val = (y 1).val; omega)
  · blk_simp [idx_val t]
    try (show 0 * 256 + (y 2).val = (y 2).val; omega)

/-- The launch, with its result named and its arguments unchanged. -/
theorem run_values (g : Dev nD → PrngReg) :
    θ_run defs (onTc (τ := τ) (main (F := Ideal))) ⟨m, fun _ => 0, g⟩ (fun r => ∀ c : Dev nD,
      r.2.mem ((c.tc : Thread nD τ).loc main_v0) = refP (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((dats m 0 c).toRForget_arrAt_iff forgets0_4 _ _).mp ((h.1 c).1 4)).trans (final_4 m c), h.2 c⟩)
    (θ_run_and (run_main m g) (unchanged m g))

end Cert.KernelPIdeal.PPass

end
-- ==== Proof.RBits.Runs.lean ====
/- What the two runs of the body of `r_pass` over machine floats share: the branch condition over the grid, and the staging
   and scratch memrefs. -/
module

public import proofs.«01_k».proof.Proof.Gen.KernelR.Frame
public import proofs.«01_k».proof.Proof.Gen.KernelR.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelR.RBits

open Idealize.ShloMosaic Idealize.ShloMosaic.TcCoe Idealize.ShloMosaic.Tactic Cert.KernelR.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's conditional, from the grid coordinates. -/
abbrev cond0_0 (i : grid0.Coords) : Prop := k0_cond1 i = 1#1
/-- It holds at the points ≡ 0 (mod 33) — by arithmetic of the point. -/
theorem hcond0_0 : ∀ t : Fin cfg0.N, cond0_0 (grid0.coords t) ↔ t.val % 33 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_0, k0_cond1, e0, e1]
    word_cmp
   : ∀ t : Fin grid0.N, cond0_0 (grid0.coords t) ↔ t.val % 33 = 0)

/-- The staging memref of each window at a point, and that it is whole. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x512 .bf16 := Memref.whole cc0_scratch0
abbrev scM0_1 : Memref sig .tc .vmem S2x2048x512 .f32 := Memref.whole cc0_scratch1
abbrev scM0_2 : Memref sig .tc .vmem S2x256x512 .bf16 := Memref.whole cc0_scratch2

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelR.RBits

end
-- ==== Proof.RBits.RunA.lean ====
/- The body of `r_pass` over machine floats at the first point of a batch. -/
module

public import proofs.«01_k».proof.Proof.RBits.Runs

@[expose] public section

set_option maxRecDepth 16384

noncomputable section

namespace Cert.KernelR.RBits

open Idealize.ShloMosaic Idealize.ShloMosaic.TcCoe Idealize.ShloMosaic.Tactic Cert.KernelR.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first point of a batch: it ends, with its inputs as they were. -/
theorem run_A (c : Dev nD) (i : grid0.Coords) (arg2 : Memref sig .tc .vmem S1x2048x512 .bf16) (harg2 : arg2.IsWhole) (arg3 : Memref sig .tc .vmem S1x2048x256 .i8) (harg3 : arg3.IsWhole) (arg4 : Memref sig .tc .vmem S1x2048x128 .f32) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x256x512 .f32) (harg7 : arg7.IsWhole) (arg8 : Memref sig .tc .vmem S1x256x128 .f32) (harg8 : arg8.IsWhole) (arg9 : Memref sig .tc .vmem S1x2048x256 .i8) (harg9 : arg9.IsWhole) (arg10 : Memref sig .tc .vmem S1x2048x128 .f32) (harg10 : arg10.IsWhole) (arg11 : Memref sig .tc .vmem S2048x512 .bf16) (harg11 : arg11.IsWhole) (arg12 : Memref sig .tc .vmem S2x2048x512 .f32) (harg12 : arg12.IsWhole) (arg13 : Memref sig .tc .vmem S2x256x512 .bf16) (harg13 : arg13.IsWhole) (hc0 : cond0_0 i)
    (x0 : Vec F S1x2048x512 .bf16) (x1 : Vec F S1x2048x256 .i8) (x2 : Vec F S1x2048x128 .f32) (x3 : Vec F S1x2048x256 .bf16) (x4 : Vec F S1x256x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_r_pass i arg2 harg2 arg3 harg3 arg4 harg4 arg5 harg5 arg6 harg6 arg7 harg7 arg8 harg8 arg9 harg9 arg10 harg10 arg11 harg11 arg12 harg12 arg13 harg13) K := by
    intro E K
    simp only [cc0_r_pass_eq_skeleton]; unfold cc0_r_pass_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part84_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelR.RBits

end
-- ==== Proof.RBits.RunB.lean ====
/- The body of `r_pass` over machine floats at the other points of a batch. -/
module

public import proofs.«01_k».proof.Proof.RBits.RunA

@[expose] public section

set_option maxRecDepth 16384

noncomputable section

namespace Cert.KernelR.RBits

open Idealize.ShloMosaic Idealize.ShloMosaic.TcCoe Idealize.ShloMosaic.Tactic Cert.KernelR.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the other points of a batch: it ends, with its inputs as they were. -/
theorem run_B (c : Dev nD) (i : grid0.Coords) (arg2 : Memref sig .tc .vmem S1x2048x512 .bf16) (harg2 : arg2.IsWhole) (arg3 : Memref sig .tc .vmem S1x2048x256 .i8) (harg3 : arg3.IsWhole) (arg4 : Memref sig .tc .vmem S1x2048x128 .f32) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x256x512 .f32) (harg7 : arg7.IsWhole) (arg8 : Memref sig .tc .vmem S1x256x128 .f32) (harg8 : arg8.IsWhole) (arg9 : Memref sig .tc .vmem S1x2048x256 .i8) (harg9 : arg9.IsWhole) (arg10 : Memref sig .tc .vmem S1x2048x128 .f32) (harg10 : arg10.IsWhole) (arg11 : Memref sig .tc .vmem S2048x512 .bf16) (harg11 : arg11.IsWhole) (arg12 : Memref sig .tc .vmem S2x2048x512 .f32) (harg12 : arg12.IsWhole) (arg13 : Memref sig .tc .vmem S2x256x512 .bf16) (harg13 : arg13.IsWhole) (hc0 : ¬cond0_0 i)
    (x0 : Vec F S1x2048x512 .bf16) (x1 : Vec F S1x2048x256 .i8) (x2 : Vec F S1x2048x128 .f32) (x3 : Vec F S1x2048x256 .bf16) (x4 : Vec F S1x256x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_r_pass i arg2 harg2 arg3 harg3 arg4 harg4 arg5 harg5 arg6 harg6 arg7 harg7 arg8 harg8 arg9 harg9 arg10 harg10 arg11 harg11 arg12 harg12 arg13 harg13) K := by
    intro E K
    simp only [cc0_r_pass_eq_skeleton]; unfold cc0_r_pass_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part84_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelR.RBits

end
-- ==== Proof.RBits.Frame.lean ====
/- The launch of `r_pass` over machine floats: it terminates, its arguments unchanged. -/
module

public import proofs.«01_k».proof.Proof.RBits.RunB
public import Idealize.ShloMosaic.Lib.Claim

@[expose] public section

set_option maxRecDepth 16384

noncomputable section

namespace Cert.KernelR.RBits

open Idealize.ShloMosaic Idealize.ShloMosaic.TcCoe Idealize.ShloMosaic.Tactic Cert.KernelR.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The argument arrays end as launched, from a launch whose proof data starts from the region-entry contents. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The output windows nothing is stated of: all four. -/
def forgets0 : Fin 9 → Bool := fun w => w.val == 5 || w.val == 6 || w.val == 7 || w.val == 8

/-- The proof data of the pipeline: the arrays as the region finds them, each input's buffer at its block after every point,
    the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 2400000 in
/-- The body at any point: a batch's first point runs as case A, the others as case B. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 66 := lt_of_lt_of_eq t.isLt (show cfg0.N = 66 from N_0)
  by_cases h0 : t.val % 33 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the arrays end as the proof data says, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf m ρ (fun c => (dats m 0 c).toRForget forgets0) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelR.RBits

end
-- ==== Proof.RPass.Chunk.lean ====
/- What the body of `r_pass` computes on 256 rows and 128 columns: the dequantised momentum plus the gradient, and the
   same rounded to bf16 with the rows of each group of 16 interleaved. Stated over any floats. -/
module

public import proofs.«01_k».proof.Proof.Gen.KernelRIdeal.Frame
public import proofs.«01_k».proof.Proof.Gen.KernelRIdeal.Skeleton
public import Idealize.ShloMosaic.Lib.WholeRead

@[expose] public section

set_option maxRecDepth 16384

noncomputable section

namespace Cert.KernelRIdeal.RPass

open Idealize.ShloMosaic Idealize.ShloMosaic.TcCoe Cert.KernelRIdeal.Gen

variable {F : FTy → Type} [FloatOps F]

/-- The codes of one 128-column block as floats: the block is the half `h` (0 or 64) of 256 columns packed two to a byte. -/
def spread (h : BitVec 32) (codes : IVec S256x128 8) : FVec F S256x128 .f32 :=
  let w : IVec S64x128 32 := bitcast S64x128 32 codes bitcasts_S256x128_w8_S64x128_w32
  let lane : IVec S64x128 32 := iota .tc S64x128 32 [1] iota_S64x128_d1_w32
  let src : IVec S64x128 32 := addi (broadcast S64x128 h) (shrsi lane (broadcast S64x128 1#32))
  let src : IVec S64x128 32 :=
    select (cmpi .slt src (broadcast S64x128 0#32)) (addi src (broadcast S64x128 128#32)) src
  let idx : IVec S64x128 32 := shapeCast S64x128 (shapeCast S64x128x1 src shapeCasts_S64x128_S64x128x1)
    shapeCasts_S64x128x1_S64x128
  let d : IVec S64x128 32 := dynamicGather 1 w idx
  let d : IVec S64x128 32 :=
    shrsi d (shli (andi lane (broadcast S64x128 1#32)) (broadcast S64x128 2#32))
  let n : IVec S256x128 32 := extsi 32 (bitcast S256x128 8 d bitcasts_S64x128_w32_S256x128_w8) natLt_8_32
  sitofp .f32 (shrsi (shli n (broadcast S256x128 28#32)) (broadcast S256x128 28#32))

/-- One block of the momentum with the gradient added: the codes times their scale, plus the gradient. -/
def chunkB (h : BitVec 32) (o : ℕ) (ho : S256x128.Slices ![0, o] S256x1) (amt : BitVec 32)
    (s : Vec F S1x256x128 .f32) (codes : Vec F S1x256x128 .i8) (g : Vec F S1x256x128 .bf16) : FVec F S256x128 .f32 :=
  let rot : FVec F S256x128 .f32 :=
    dynamicRotate 1 amt none (shapeCast S256x128 s shapeCasts_S1x256x128_S256x128) rotates_S256x128_d1
  let scale : FVec F S256x128 .f32 :=
    broadcastTo S256x128 (extractStridedSlice S256x1 ![0, o] rot ho) broadcasts_S256x1_S256x128
  addf (mulf (spread h (shapeCast S256x128 codes shapeCasts_S1x256x128_S256x128)) scale)
    (extf .f32 (shapeCast S256x128 g shapeCasts_S1x256x128_S256x128) bitsLt_bf16_f32)

/-- A block rounded to bf16, rows interleaved: rows `2c` and `2c + 1` of a group of 16 are its rows `c` and `8 + c`. -/
def interleave (b : FVec F S256x128 .f32) : FVec F S256x128 .bf16 :=
  let x : FVec F S16x16x128 .f32 := shapeCast S16x16x128 b shapeCasts_S256x128_S16x16x128
  let lo : FVec F S128x128 .f32 := shapeCast S128x128
    (extractStridedSlice S16x8x128 ![0, 0, 0] x slices_S16x16x128_o0_0_0_S16x8x128) shapeCasts_S16x8x128_S128x128
  let hi : FVec F S128x128 .f32 := shapeCast S128x128
    (extractStridedSlice S16x8x128 ![0, 8, 0] x slices_S16x16x128_o0_8_0_S16x8x128) shapeCasts_S16x8x128_S128x128
  shapeCast S256x128 (interleaveRows S256x128 (truncf .bf16 lo) (truncf .bf16 hi)
    bitcasts_S256x128_w16_S128x128_w32) shapeCasts_S256x128_S256x128

/-- How far the scales of a row are rotated at a grid point: 128 less four times the tile's number, modulo 128. -/
def amount (i : grid0.Coords) : BitVec 32 :=
  let tile : BitVec 32 := Scalar.minsi (BitVec.ofNat 32 (i 1).val) 31#32
  let n : BitVec 32 := Scalar.subi 128#32 (Scalar.muli tile 4#32)
  let d : BitVec 32 := Scalar.select (Scalar.cmpi .eq 128#32 0#32) 1#32 128#32
  let r : BitVec 32 := Scalar.remsi n d
  Scalar.select (Scalar.andi (Scalar.xori (Scalar.cmpi .slt r 0#32) (Scalar.cmpi .slt d 0#32)) (Scalar.cmpi .ne r 0#32))
    (Scalar.addi r d) r

theorem inb_s {r : ℕ} (hr : r + 256 ≤ 2048) : ∀ a, (![0, r, 0] : Fin 3 → ℕ) a + S1x256x128.size a ≤ S1x2048x128.size a := by
  intro a; fin_cases a
  · exact le_refl _
  · exact hr
  · exact le_refl _

theorem inb_c {r c : ℕ} (hr : r + 256 ≤ 2048) (hc : c + 128 ≤ 256) :
    ∀ a, (![0, r, c] : Fin 3 → ℕ) a + S1x256x128.size a ≤ S1x2048x256.size a := by
  intro a; fin_cases a
  · exact le_refl _
  · exact hr
  · exact hc

theorem inb_g {r c : ℕ} (hr : r + 256 ≤ 2048) (hc : c + 128 ≤ 512) :
    ∀ a, (![0, r, c] : Fin 3 → ℕ) a + S1x256x128.size a ≤ S1x2048x512.size a := by
  intro a; fin_cases a
  · exact le_refl _
  · exact hr
  · exact hc

theorem inb_bb {r c : ℕ} (hr : r + 256 ≤ 2048) (hc : c + 128 ≤ 512) :
    ∀ a, (![r, c] : Fin 2 → ℕ) a + S256x128.size a ≤ S2048x512.size a := by
  intro a; fin_cases a
  · exact hr
  · exact hc

/-- The block of the momentum with rows from `r` and columns from `c`, from the loads of the gradient (`l0`), the codes
    (`l1`, columns from `k`) and the scales (`l2`, column `o` of the rotated rows). -/
def blockOf (i : grid0.Coords)
    (l0 : (r c : ℕ) → (∀ a, (![0, r, c] : Fin 3 → ℕ) a + S1x256x128.size a ≤ S1x2048x512.size a) → Vec F S1x256x128 .bf16)
    (l1 : (r c : ℕ) → (∀ a, (![0, r, c] : Fin 3 → ℕ) a + S1x256x128.size a ≤ S1x2048x256.size a) → Vec F S1x256x128 .i8)
    (l2 : (r : ℕ) → (∀ a, (![0, r, 0] : Fin 3 → ℕ) a + S1x256x128.size a ≤ S1x2048x128.size a) → Vec F S1x256x128 .f32)
    (r c k o : ℕ) (h : BitVec 32) (hr : r + 256 ≤ 2048) (hc : c + 128 ≤ 512) (hk : k + 128 ≤ 256)
    (ho : S256x128.Slices ![0, o] S256x1) : FVec F S256x128 .f32 :=
  chunkB h o ho (amount i) (l2 r (inb_s hr)) (l1 r k (inb_c hr hk)) (l0 r c (inb_g hr hc))

/-- The piece of the bf16 tile the body stores for that block. -/
def pieceOf (i : grid0.Coords)
    (l0 : (r c : ℕ) → (∀ a, (![0, r, c] : Fin 3 → ℕ) a + S1x256x128.size a ≤ S1x2048x512.size a) → Vec F S1x256x128 .bf16)
    (l1 : (r c : ℕ) → (∀ a, (![0, r, c] : Fin 3 → ℕ) a + S1x256x128.size a ≤ S1x2048x256.size a) → Vec F S1x256x128 .i8)
    (l2 : (r : ℕ) → (∀ a, (![0, r, 0] : Fin 3 → ℕ) a + S1x256x128.size a ≤ S1x2048x128.size a) → Vec F S1x256x128 .f32)
    (r c k o : ℕ) (h : BitVec 32) (hr : r + 256 ≤ 2048) (hc : c + 128 ≤ 512) (hk : k + 128 ≤ 256)
    (ho : S256x128.Slices ![0, o] S256x1) : View.Piece (Elt F) S2048x512 .bf16 :=
  ⟨Rect.unit ![r, c] S256x128.size (inb_bb hr hc), interleave (blockOf i l0 l1 l2 r c k o h hr hc hk ho)⟩

/-- The 32 pieces of the bf16 tile, in the order the stores leave them. -/
def piecesOf (i : grid0.Coords)
    (l0 : (r c : ℕ) → (∀ a, (![0, r, c] : Fin 3 → ℕ) a + S1x256x128.size a ≤ S1x2048x512.size a) → Vec F S1x256x128 .bf16)
    (l1 : (r c : ℕ) → (∀ a, (![0, r, c] : Fin 3 → ℕ) a + S1x256x128.size a ≤ S1x2048x256.size a) → Vec F S1x256x128 .i8)
    (l2 : (r : ℕ) → (∀ a, (![0, r, 0] : Fin 3 → ℕ) a + S1x256x128.size a ≤ S1x2048x128.size a) → Vec F S1x256x128 .f32) :
    List (View.Piece (Elt F) S2048x512 .bf16) :=
  [pieceOf i l0 l1 l2 1792 384 128 3 64#32 (by decide) (by decide) (by decide) slices_S256x128_o0_3_S256x1,
   pieceOf i l0 l1 l2 1792 256 128 2 0#32 (by decide) (by decide) (by decide) slices_S256x128_o0_2_S256x1,
   pieceOf i l0 l1 l2 1792 128 0 1 64#32 (by decide) (by decide) (by decide) slices_S256x128_o0_1_S256x1,
   pieceOf i l0 l1 l2 1792 0 0 0 0#32 (by decide) (by decide) (by decide) slices_S256x128_o0_0_S256x1,
   pieceOf i l0 l1 l2 1536 384 128 3 64#32 (by decide) (by decide) (by decide) slices_S256x128_o0_3_S256x1,
   pieceOf i l0 l1 l2 1536 256 128 2 0#32 (by decide) (by decide) (by decide) slices_S256x128_o0_2_S256x1,
   pieceOf i l0 l1 l2 1536 128 0 1 64#32 (by decide) (by decide) (by decide) slices_S256x128_o0_1_S256x1,
   pieceOf i l0 l1 l2 1536 0 0 0 0#32 (by decide) (by decide) (by decide) slices_S256x128_o0_0_S256x1,
   pieceOf i l0 l1 l2 1280 384 128 3 64#32 (by decide) (by decide) (by decide) slices_S256x128_o0_3_S256x1,
   pieceOf i l0 l1 l2 1280 256 128 2 0#32 (by decide) (by decide) (by decide) slices_S256x128_o0_2_S256x1,
   pieceOf i l0 l1 l2 1280 128 0 1 64#32 (by decide) (by decide) (by decide) slices_S256x128_o0_1_S256x1,
   pieceOf i l0 l1 l2 1280 0 0 0 0#32 (by decide) (by decide) (by decide) slices_S256x128_o0_0_S256x1,
   pieceOf i l0 l1 l2 1024 384 128 3 64#32 (by decide) (by decide) (by decide) slices_S256x128_o0_3_S256x1,
   pieceOf i l0 l1 l2 1024 256 128 2 0#32 (by decide) (by decide) (by decide) slices_S256x128_o0_2_S256x1,
   pieceOf i l0 l1 l2 1024 128 0 1 64#32 (by decide) (by decide) (by decide) slices_S256x128_o0_1_S256x1,
   pieceOf i l0 l1 l2 1024 0 0 0 0#32 (by decide) (by decide) (by decide) slices_S256x128_o0_0_S256x1,
   pieceOf i l0 l1 l2 768 384 128 3 64#32 (by decide) (by decide) (by decide) slices_S256x128_o0_3_S256x1,
   pieceOf i l0 l1 l2 768 256 128 2 0#32 (by decide) (by decide) (by decide) slices_S256x128_o0_2_S256x1,
   pieceOf i l0 l1 l2 768 128 0 1 64#32 (by decide) (by decide) (by decide) slices_S256x128_o0_1_S256x1,
   pieceOf i l0 l1 l2 768 0 0 0 0#32 (by decide) (by decide) (by decide) slices_S256x128_o0_0_S256x1,
   pieceOf i l0 l1 l2 512 384 128 3 64#32 (by decide) (by decide) (by decide) slices_S256x128_o0_3_S256x1,
   pieceOf i l0 l1 l2 512 256 128 2 0#32 (by decide) (by decide) (by decide) slices_S256x128_o0_2_S256x1,
   pieceOf i l0 l1 l2 512 128 0 1 64#32 (by decide) (by decide) (by decide) slices_S256x128_o0_1_S256x1,
   pieceOf i l0 l1 l2 512 0 0 0 0#32 (by decide) (by decide) (by decide) slices_S256x128_o0_0_S256x1,
   pieceOf i l0 l1 l2 256 384 128 3 64#32 (by decide) (by decide) (by decide) slices_S256x128_o0_3_S256x1,
   pieceOf i l0 l1 l2 256 256 128 2 0#32 (by decide) (by decide) (by decide) slices_S256x128_o0_2_S256x1,
   pieceOf i l0 l1 l2 256 128 0 1 64#32 (by decide) (by decide) (by decide) slices_S256x128_o0_1_S256x1,
   pieceOf i l0 l1 l2 256 0 0 0 0#32 (by decide) (by decide) (by decide) slices_S256x128_o0_0_S256x1,
   pieceOf i l0 l1 l2 0 384 128 3 64#32 (by decide) (by decide) (by decide) slices_S256x128_o0_3_S256x1,
   pieceOf i l0 l1 l2 0 256 128 2 0#32 (by decide) (by decide) (by decide) slices_S256x128_o0_2_S256x1,
   pieceOf i l0 l1 l2 0 128 0 1 64#32 (by decide) (by decide) (by decide) slices_S256x128_o0_1_S256x1,
   pieceOf i l0 l1 l2 0 0 0 0 0#32 (by decide) (by decide) (by decide) slices_S256x128_o0_0_S256x1]

/-- The pieces over the staged blocks `x0` (gradient), `x1` (codes) and `x2` (scales). -/
def piecesBB (i : grid0.Coords) (x0 : Vec F S1x2048x512 .bf16) (x1 : Vec F S1x2048x256 .i8) (x2 : Vec F S1x2048x128 .f32) :
    List (View.Piece (Elt F) S2048x512 .bf16) :=
  piecesOf i (fun r c h z => x0 ((Rect.unit (s := S1x2048x512) ![0, r, c] S1x256x128.size h).toLoadRect.idx z))
    (fun r c h z => x1 ((Rect.unit (s := S1x2048x256) ![0, r, c] S1x256x128.size h).toLoadRect.idx z))
    (fun r h z => x2 ((Rect.unit (s := S1x2048x128) ![0, r, 0] S1x256x128.size h).toLoadRect.idx z))

/-- A load through a whole memref held at the contents that read `X`, as a function. -/
theorem readAt_unread {sig : RefSig} {Val : EltTy → Type} {κ : Kind} {sp : Space} {s : Shape} {e : EltTy}
    {m : Memref sig κ sp s e} (h : m.IsWhole) (X : s.Idx → Val e) (B : LoadRect s) :
    View.readAt Val m.view B (h.unread X) = fun x => X (B.idx x) :=
  funext (Memref.IsWhole.readAt_unread h X B)

/-- The pieces over loads of whole memrefs held at the staged blocks. -/
theorem piecesOf_readAt (i : grid0.Coords) {arg2 : Memref sig .tc .vmem S1x2048x512 .bf16} (harg2 : arg2.IsWhole)
    {arg3 : Memref sig .tc .vmem S1x2048x256 .i8} (harg3 : arg3.IsWhole)
    {arg4 : Memref sig .tc .vmem S1x2048x128 .f32} (harg4 : arg4.IsWhole)
    (x0 : Vec F S1x2048x512 .bf16) (x1 : Vec F S1x2048x256 .i8) (x2 : Vec F S1x2048x128 .f32) :
    piecesOf i
      (fun r c h => View.readAt (Elt F) arg2.view (Rect.unit (s := S1x2048x512) ![0, r, c] S1x256x128.size h).toLoadRect (harg2.unread x0))
      (fun r c h => View.readAt (Elt F) arg3.view (Rect.unit (s := S1x2048x256) ![0, r, c] S1x256x128.size h).toLoadRect (harg3.unread x1))
      (fun r h => View.readAt (Elt F) arg4.view (Rect.unit (s := S1x2048x128) ![0, r, 0] S1x256x128.size h).toLoadRect (harg4.unread x2))
      = piecesBB i x0 x1 x2 := by
  unfold piecesBB
  congr 1
  · funext r c h; exact readAt_unread harg2 x0 _
  · funext r c h; exact readAt_unread harg3 x1 _
  · funext r h; exact readAt_unread harg4 x2 _

end Cert.KernelRIdeal.RPass

end
-- ==== Proof.RPass.Spec.lean ====
/- The reference of `r_pass` read element by element over the extended reals: the four-bit codes, the momentum with the
   gradient added, its product with `P_b`, and the sums of squares over the blocks. -/
module

public import proofs.«01_k».proof.Proof.Gen.ReferenceRIdeal.Run
public import Idealize.ShloMosaic.Lib.Pipeline.ValueKit

@[expose] public section

set_option maxRecDepth 16384

noncomputable section

namespace Cert.ReferenceRIdeal.RPass

open Idealize.ShloMosaic Idealize.ShloMosaic.TcCoe Cert.ReferenceRIdeal Cert.ReferenceRIdeal.Gen
open scoped BigOperators

/-- The signed value of four bits of a byte, as a word: the low four (`o = 0`) or the high four (`o = 1`). -/
def nib (b : BitVec 8) (o : ℕ) : BitVec 32 := (((b >>> (4 * o)).signExtend 32) <<< 28).sshiftRight 28

/-- The reference's way of making a four-bit word signed: less 16 from 8 on. -/
abbrev signed (x : IVec S2x2048x8192 32) : IVec S2x2048x8192 32 :=
  (select (cmpi .sge x (broadcastInDim S2x2048x8192 ![] bcast_S_S2x2048x8192 (constantI S_ 32 8#32))) (subi x (broadcastInDim S2x2048x8192 ![] bcast_S_S2x2048x8192 (constantI S_ 32 16#32))) x)

/-- The reference's codes, two columns a byte, the low half first. -/
abbrev unpacked (codes : IVec S2x2048x8192 8) : IVec S2x2048x8192x2 32 :=
  concatenate S2x2048x8192x2 3 [⟨S2x2048x8192x1, (broadcastInDim S2x2048x8192x1 ![0, 1, 2] bcast_S2x2048x8192_S2x2048x8192x1_0_1_2 (signed (andi (extui 32 codes natLt_8_32) (broadcastInDim S2x2048x8192 ![] bcast_S_S2x2048x8192 (constantI S_ 32 15#32)))))⟩, ⟨S2x2048x8192x1, (broadcastInDim S2x2048x8192x1 ![0, 1, 2] bcast_S2x2048x8192_S2x2048x8192x1_0_1_2 (signed (Host.shrsi (extui 32 codes natLt_8_32) (broadcastInDim S2x2048x8192 ![] bcast_S_S2x2048x8192 (constantI S_ 32 4#32)))))⟩] concatenates_S2x2048x8192x1_S2x2048x8192x1_S2x2048x8192x2_d3

/-- The reference's momentum with the gradient added. -/
abbrev refB (g : FVec Ideal S2x2048x16384 .bf16) (codes : IVec S2x2048x8192 8) (scales : FVec Ideal S2x2048x128 .f32) :
    FVec Ideal S2x2048x16384 .bf16 :=
  truncf .bf16 (addf (shapeCast _ (mulf (shapeCast _ (sitofp .f32 (shapeCast S2x2048x16384 (unpacked codes) shapeCasts_S2x2048x8192x2_S2x2048x16384)) shapeCasts_S2x2048x16384_S2x2048x128x128) (broadcastInDim S2x2048x128x128 ![0, 1, 2, 3] bcast_S2x2048x128x1_S2x2048x128x128_0_1_2_3 (broadcastInDim S2x2048x128x1 ![0, 1, 2] bcast_S2x2048x128_S2x2048x128x1_0_1_2 scales))) shapeCasts_S2x2048x128x128_S2x2048x16384) (extf .f32 g bitsLt_bf16_f32)) bitsLt_bf16_f32

/-- The reference's product `R`. -/
abbrev refR (g : FVec Ideal S2x2048x16384 .bf16) (codes : IVec S2x2048x8192 8) (scales : FVec Ideal S2x2048x128 .f32)
    (pb : FVec Ideal S2x2048x256 .bf16) : FVec Ideal S2x16384x256 .f32 :=
  Host.dotGeneral dot_S2x2048x16384_S2x2048x256_S2x16384x256_1_1_2_2_0_0 none (refB g codes scales) pb

/-- The reference's `R` transposed. -/
abbrev refRt (g : FVec Ideal S2x2048x16384 .bf16) (codes : IVec S2x2048x8192 8) (scales : FVec Ideal S2x2048x128 .f32)
    (pb : FVec Ideal S2x2048x256 .bf16) : FVec Ideal S2x256x16384 .f32 :=
  transpose S2x256x16384 [0, 2, 1] (refR g codes scales pb) transposes_S2x16384x256_S2x256x16384_0_2_1

/-- The reference's sums of squares, transposed. -/
abbrev refSq (g : FVec Ideal S2x2048x16384 .bf16) (codes : IVec S2x2048x8192 8) (scales : FVec Ideal S2x2048x128 .f32)
    (pb : FVec Ideal S2x2048x256 .bf16) : FVec Ideal S2x256x128 .f32 :=
  transpose S2x256x128 [0, 2, 1] (Host.reduceAdd (shapeCast _ (mulf (refR g codes scales pb) (refR g codes scales pb))
    shapeCasts_S2x16384x256_S2x128x128x256) (constant S_ .f32 0x00000000#32) reducesTo_S2x128x128x256_S2x128x256_d1 h_S_)
    transposes_S2x128x256_S2x256x128_0_2_1

/-- One element of the momentum with the gradient added. -/
def momB (g : FVec Ideal S2x2048x16384 .bf16) (codes : IVec S2x2048x8192 8) (scales : FVec Ideal S2x2048x128 .f32)
    (b : Fin 2) (k : Fin 2048) (n : Fin 16384) : Ideal .f32 :=
  FloatOps.sitofp .f32 (nib (codes (ix3 b k ⟨n.val / 2, by omega⟩)) (n.val % 2)) * scales (ix3 b k ⟨n.val / 128, by omega⟩)
    + g (ix3 b k n)

/-- One element of `R`. -/
def elR (g : FVec Ideal S2x2048x16384 .bf16) (codes : IVec S2x2048x8192 8) (scales : FVec Ideal S2x2048x128 .f32)
    (pb : FVec Ideal S2x2048x256 .bf16) (b : Fin 2) (r : Fin 256) (n : Fin 16384) : Ideal .f32 :=
  ∑ k : Fin 2048, pb (ix3 b k r) * momB g codes scales b k n

/-- One element of the sums of squares. -/
def elSq (g : FVec Ideal S2x2048x16384 .bf16) (codes : IVec S2x2048x8192 8) (scales : FVec Ideal S2x2048x128 .f32)
    (pb : FVec Ideal S2x2048x256 .bf16) (b : Fin 2) (r : Fin 256) (l : Fin 128) : Ideal .f32 :=
  ∑ k : Fin 128, elR g codes scales pb b r ⟨128 * k.val + l.val, by omega⟩ * elR g codes scales pb b r ⟨128 * k.val + l.val, by omega⟩

theorem signed_low : ∀ b : BitVec 8, Scalar.select (IntOp.cmpi .sge (IntOp.andi (BitVec.setWidth 32 b) 15#32) 8#32)
    (IntOp.subi (IntOp.andi (BitVec.setWidth 32 b) 15#32) 16#32) (IntOp.andi (BitVec.setWidth 32 b) 15#32) = nib b 0 := by
  decide +kernel

theorem signed_high : ∀ b : BitVec 8,
    Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)
      = nib b 1 := by
  decide +kernel

/-- The reference's codes are the signed halves of the bytes. -/
theorem unpacked_apply (codes : IVec S2x2048x8192 8) (y : S2x2048x8192x2.Idx) :
    unpacked codes y = nib (codes (ix3 (y 0) (y 1) (y 2))) (y 3).val := by
  pointwise [unpacked, signed]
  have h3 : (y 3).val < 2 := (y 3).isLt
  split
  · next h => rw [signed_low]; congr 1; omega
  · next h => rw [signed_high]; congr 1; omega

theorem refB_apply (g : FVec Ideal S2x2048x16384 .bf16) (codes : IVec S2x2048x8192 8) (scales : FVec Ideal S2x2048x128 .f32)
    (b : Fin 2) (k : Fin 2048) (n : Fin 16384) : refB g codes scales (ix3 b k n) = momB g codes scales b k n := by
  have hu := unpacked_apply codes
  unfold momB refB
  generalize unpacked codes = u at *
  pointwise [hu]

/-- The reference's `R`, element by element. -/
theorem refRt_apply (g : FVec Ideal S2x2048x16384 .bf16) (codes : IVec S2x2048x8192 8) (scales : FVec Ideal S2x2048x128 .f32)
    (pb : FVec Ideal S2x2048x256 .bf16) (y : S2x256x16384.Idx) :
    refRt g codes scales pb y = elR g codes scales pb (y 0) (y 1) (y 2) := by
  have hu := refB_apply g codes scales
  unfold refRt refR elR
  generalize refB g codes scales = u at *
  pointwise []
  exact Finset.sum_congr rfl fun k _ => (congrArg (· * _) (hu _ _ _)).trans (mul_comm _ _)

theorem refR_apply (g : FVec Ideal S2x2048x16384 .bf16) (codes : IVec S2x2048x8192 8) (scales : FVec Ideal S2x2048x128 .f32)
    (pb : FVec Ideal S2x2048x256 .bf16) (b : Fin 2) (n : Fin 16384) (r : Fin 256) :
    refR g codes scales pb (ix3 b n r) = elR g codes scales pb b r n := by
  have hu := refB_apply g codes scales
  unfold refR elR
  generalize refB g codes scales = u at *
  pointwise []
  exact Finset.sum_congr rfl fun k _ => (congrArg (· * _) (hu _ _ _)).trans (mul_comm _ _)

/-- The reference's sums of squares, element by element. -/
theorem refSq_apply (g : FVec Ideal S2x2048x16384 .bf16) (codes : IVec S2x2048x8192 8) (scales : FVec Ideal S2x2048x128 .f32)
    (pb : FVec Ideal S2x2048x256 .bf16) (y : S2x256x128.Idx) :
    refSq g codes scales pb y = elSq g codes scales pb (y 0) (y 1) (y 2) := by
  have hu := refR_apply g codes scales pb
  unfold refSq elSq
  generalize refR g codes scales pb = u at *
  pointwise []
  refine Finset.sum_congr rfl fun k _ => ?_
  have e : (⟨k.val * 128 + (y 2).val, by have := (y 2).isLt; have := k.isLt; simp [S2x256x128] at *; omega⟩ : Fin 16384)
      = ⟨128 * k.val + (y 2).val, by have := (y 2).isLt; have := k.isLt; simp [S2x256x128] at *; omega⟩ :=
    Fin.ext (by show k.val * 128 + (y 2).val = 128 * k.val + (y 2).val; omega)
  have h := hu (y 0) ⟨k.val * 128 + (y 2).val, by have := (y 2).isLt; have := k.isLt; simp [S2x256x128] at *; omega⟩ (y 1)
  exact (congrArg₂ (· * ·) h h).trans
    (congrArg (fun n => elR g codes scales pb (y 0) (y 1) n * elR g codes scales pb (y 0) (y 1) n) e)

end Cert.ReferenceRIdeal.RPass

end
-- ==== Proof.RPass.Decode.lean ====
/- The codes as the body of `r_pass` unpacks them: the four-bit value at a row and a lane is the signed half of one byte of
   that row. -/
module

public import proofs.«01_k».proof.Proof.RPass.Chunk
public import proofs.«01_k».proof.Proof.RPass.Spec
public import Idealize.ShloMosaic.Lib.BitcastFour

@[expose] public section

set_option maxRecDepth 16384

noncomputable section

namespace Cert.KernelRIdeal.RPass

open Idealize.ShloMosaic Idealize.ShloMosaic.TcCoe Cert.KernelRIdeal.Gen
open Cert.ReferenceRIdeal.RPass (nib)

/-- The lane a code is gathered from: lane `l / 2` of the half `h`. -/
theorem lane_src (h : BitVec 32) (hh : h = 0#32 ∨ h = 64#32) : ∀ l : Fin 128,
    (Scalar.select (IntOp.cmpi .slt (IntOp.addi h (IntOp.shrsi .vector (BitVec.ofNat 32 l.val) 1#32)) 0#32)
      (IntOp.addi (IntOp.addi h (IntOp.shrsi .vector (BitVec.ofNat 32 l.val) 1#32)) 128#32)
      (IntOp.addi h (IntOp.shrsi .vector (BitVec.ofNat 32 l.val) 1#32))).toNat % 128 = h.toNat + l.val / 2 := by
  rcases hh with rfl | rfl <;> decide +kernel

/-- How far a gathered word is shifted: 4 in the odd lanes. -/
theorem lane_shift : ∀ l : Fin 128,
    IntOp.shli .vector (IntOp.andi (BitVec.ofNat 32 l.val) 1#32) 2#32 = BitVec.ofNat 32 (4 * (l.val % 2)) := by
  decide +kernel

/-- Words read back as bytes: row `r` is byte `r % 4` of the words of row `r / 4`. -/
theorem back_apply (x : IVec S64x128 32) (r : Fin 256) (l : Fin 128) (q : ℕ) (hq : q < 8) :
    (bitcast S256x128 8 x bitcasts_S64x128_w32_S256x128_w8 (ix2 r l)).getLsbD q
      = (x (ix2 ⟨r.val / 4, by omega⟩ l)).getLsbD (8 * (r.val % 4) + q) := by
  rw [bitcast_getLsbD _ _ _ q hq (by decide)]
  have h1 : ((⟨2, ![256, 128]⟩ : Shape).row (ix2 r l) * 8 + q) / 32 = r.val / 4 := by
    show (r.val * 8 + q) / 32 = r.val / 4
    omega
  have h2 : ((⟨2, ![256, 128]⟩ : Shape).row (ix2 r l) * 8 + q) % 32 = 8 * (r.val % 4) + q := by
    show (r.val * 8 + q) % 32 = _
    omega
  rw [h2]
  congr 2
  funext c
  match c with
  | ⟨0, _⟩ => exact Fin.ext ((Shape.Bitcasts.srcIdx_row _ _ _ _ ⟨0, Nat.zero_lt_two⟩ rfl).trans h1)
  | ⟨1, _⟩ => exact Fin.ext (Shape.Bitcasts.srcIdx_other _ _ _ _ ⟨1, Nat.one_lt_two⟩ (by decide))

/-- Bytes read as words: bit `q` of the word of row `a` is bit `q % 8` of byte row `4 a + q / 8`. -/
theorem bitcast_word (codes : IVec S256x128 8) (a : Fin 64) (l : Fin 128) (q : ℕ) (hq : q < 32) :
    (bitcast S64x128 32 codes bitcasts_S256x128_w8_S64x128_w32 (ix2 a l)).getLsbD q
      = (codes (ix2 ⟨4 * a.val + q / 8, by omega⟩ l)).getLsbD (q % 8) :=
  bitcast_8_32_getLsbD_ix2 codes bitcasts_S256x128_w8_S64x128_w32 a l q hq ⟨4 * a.val + q / 8, by omega⟩ rfl

/-- The words of the gathered and shifted codes. -/
def words (h : BitVec 32) (codes : IVec S256x128 8) : IVec S64x128 32 :=
  let w : IVec S64x128 32 := bitcast S64x128 32 codes bitcasts_S256x128_w8_S64x128_w32
  let lane : IVec S64x128 32 := iota .tc S64x128 32 [1] iota_S64x128_d1_w32
  let src : IVec S64x128 32 := addi (broadcast S64x128 h) (shrsi lane (broadcast S64x128 1#32))
  let src : IVec S64x128 32 :=
    select (cmpi .slt src (broadcast S64x128 0#32)) (addi src (broadcast S64x128 128#32)) src
  let idx : IVec S64x128 32 := shapeCast S64x128 (shapeCast S64x128x1 src shapeCasts_S64x128_S64x128x1)
    shapeCasts_S64x128x1_S64x128
  let d : IVec S64x128 32 := dynamicGather 1 w idx
  shrsi d (shli (andi lane (broadcast S64x128 1#32)) (broadcast S64x128 2#32))

theorem spread_eq (h : BitVec 32) (codes : IVec S256x128 8) : spread (F := Ideal) h codes =
    sitofp .f32 (shrsi (shli (extsi 32 (bitcast S256x128 8 (words h codes) bitcasts_S64x128_w32_S256x128_w8) natLt_8_32)
      (broadcast S256x128 28#32)) (broadcast S256x128 28#32)) := rfl

/-- A shift by 0 or 4 keeps the places of a word, moved down. -/
theorem shift_bit (x : BitVec 32) (o q : ℕ) (ho : o < 2) (hq : q + 4 * o < 32) :
    (IntOp.shrsi .vector x (BitVec.ofNat 32 (4 * o))).getLsbD q = x.getLsbD (q + 4 * o) := by
  have ht : (BitVec.ofNat 32 (4 * o)).toNat = 4 * o := by
    rw [BitVec.toNat_ofNat]; exact Nat.mod_eq_of_lt (by omega)
  unfold IntOp.shrsi
  rw [if_pos (by rw [ht]; omega), BitVec.sshiftRight', ht, BitVec.getLsbD_sshiftRight]
  have h1 : ¬ 32 ≤ q := by omega
  have h2 : 4 * o + q < 32 := by omega
  simp only [h1, h2, decide_false, Bool.not_false, Bool.true_and, if_true]
  congr 1; omega

theorem words_apply (h : BitVec 32) (hh : h = 0#32 ∨ h = 64#32) (codes : IVec S256x128 8) (a : Fin 64) (l : Fin 128) (q : ℕ)
    (hq : q + 4 * (l.val % 2) < 32) (hl : h.toNat + l.val / 2 < 128) :
    (words h codes (ix2 a l)).getLsbD q
      = (codes (ix2 ⟨4 * a.val + (q + 4 * (l.val % 2)) / 8, by omega⟩ ⟨h.toNat + l.val / 2, hl⟩)).getLsbD
          ((q + 4 * (l.val % 2)) % 8) := by
  pointwise [words]
  rw [lane_shift, shift_bit _ _ _ (by omega) hq]
  rw [← bitcast_word codes a ⟨h.toNat + l.val / 2, hl⟩ _ hq]
  congr 3
  exact Fin.ext (lane_src h hh l)

/-- The signed value of a byte's low four bits depends on those bits alone. -/
theorem low_mask : ∀ x : BitVec 8,
    IntOp.shrsi .vector (IntOp.shli .vector (BitVec.signExtend 32 x) 28#32) 28#32 = nib (x &&& 15#8) 0 := by
  decide +kernel

theorem nib_mask : ∀ (o : Fin 2) (x : BitVec 8), nib ((x >>> (4 * o.val)) &&& 15#8) 0 = nib x o.val := by
  decide +kernel

theorem low_eq (x b : BitVec 8) (o : ℕ) (ho : o < 2) (h : ∀ q < 4, x.getLsbD q = b.getLsbD (q + 4 * o)) :
    IntOp.shrsi .vector (IntOp.shli .vector (BitVec.signExtend 32 x) 28#32) 28#32 = nib b o := by
  rw [low_mask, ← nib_mask ⟨o, ho⟩ b]
  congr 1
  apply BitVec.eq_of_getLsbD_eq
  intro q hq
  have h15 : (15#8 : BitVec 8).getLsbD q = decide (q < 4) := by
    interval_cases q <;> rfl
  rw [BitVec.getLsbD_and, BitVec.getLsbD_and, BitVec.getLsbD_ushiftRight, h15]
  by_cases h4 : q < 4
  · rw [h q h4, Nat.add_comm]
  · simp [h4]

/-- The code at a row and a lane: the signed half `l % 2` of the byte in lane `l / 2` of the half `h`. -/
theorem spread_apply (h : BitVec 32) (hh : h = 0#32 ∨ h = 64#32) (codes : IVec S256x128 8) (r : Fin 256) (l : Fin 128)
    (hl : h.toNat + l.val / 2 < 128) :
    spread (F := Ideal) h codes (ix2 r l)
      = FloatOps.sitofp .f32 (nib (codes (ix2 r ⟨h.toNat + l.val / 2, hl⟩)) (l.val % 2)) := by
  rw [spread_eq]
  pointwise []
  refine congrArg (FloatOps.sitofp (F := Ideal) .f32) ?_
  refine low_eq _ _ _ (by omega) fun q hq => ?_
  have hr : r.val % 4 < 4 := by omega
  have h8 : 8 * (r.val % 4) + q + 4 * (l.val % 2) < 32 := by omega
  rw [back_apply _ r l q (by omega), words_apply h hh codes _ l _ h8 hl]
  have e1 : (8 * (r.val % 4) + q + 4 * (l.val % 2)) % 8 = q + 4 * (l.val % 2) := by omega
  have e2 : 4 * (r.val / 4) + (8 * (r.val % 4) + q + 4 * (l.val % 2)) / 8 = r.val := by omega
  exact congrArg₂ (fun (a : Fin 256) (k : ℕ) => (codes (ix2 a ⟨h.toNat + l.val / 2, hl⟩)).getLsbD k) (Fin.ext e2) e1

end Cert.KernelRIdeal.RPass

end
-- ==== Proof.RPass.Runs.lean ====
/- What the two runs of the body of `r_pass` are stated over: its branch condition, its staging and scratch memrefs,
   and the tiles it leaves. -/
module

public import proofs.«01_k».proof.Proof.RPass.Chunk
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelRIdeal.RPass

open Idealize.ShloMosaic Idealize.ShloMosaic.TcCoe Idealize.ShloMosaic.Tactic Cert.KernelRIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The bf16 tile the body leaves: its 32 pieces put together. -/
def bbVec (i : grid0.Coords) (x0 : Vec F S1x2048x512 .bf16) (x1 : Vec F S1x2048x256 .i8) (x2 : Vec F S1x2048x128 .f32) :
    S2048x512.Idx → F .bf16 := View.canon (piecesBB i x0 x1 x2)

/-- The tile of the transposed new factor the body leaves. -/
def rtTile (i : grid0.Coords) (x0 : Vec F S1x2048x512 .bf16) (x1 : Vec F S1x2048x256 .i8) (x2 : Vec F S1x2048x128 .f32)
    (x4 : Vec F S1x256x2048 .bf16) : FVec F S1x256x512 .f32 := k0_pay436 x4 (bbVec i x0 x1 x2)

/-- The sums of squares the body leaves, over the ones it finds. -/
def sqStep (i : grid0.Coords) (x0 : Vec F S1x2048x512 .bf16) (x1 : Vec F S1x2048x256 .i8) (x2 : Vec F S1x2048x128 .f32)
    (x4 : Vec F S1x256x2048 .bf16) (old : Vec F S1x256x128 .f32) : FVec F S1x256x128 .f32 :=
  k0_pay1 (BitVec.ofNat 32 (i 1).val) (k0_pay438 x4 (bbVec i x0 x1 x2)) old

theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole memref held at the contents that read `X` is `X`. -/
theorem readAt_whole_unread {sig : RefSig} {Val : EltTy → Type} {κ : Kind} {sp : Space} {s : Shape} {e : EltTy}
    {m : Memref sig κ sp s e} (h : m.IsWhole) (X : s.Idx → Val e) {off : Fin s.rank → ℕ} (ho : off = fun _ => 0)
    (inb : ∀ a, off a + s.size a ≤ s.size a) :
    View.readAt Val m.view (Rect.unit off s.size inb).toLoadRect (h.unread X) = X :=
  (readAt_unread h X _).trans (View.ld_unit_zero ho inb X)

/-- A covered load of the whole shape reads the pieces put together. -/
theorem readCov_whole {sig : RefSig} {κ : Kind} {sp : Space} {s : Shape} {e : EltTy} (v : View sig κ sp s e)
    (L : List (View.Piece (Elt F) s e)) {off : Fin s.rank → ℕ} (ho : off = fun _ => 0)
    (inb : ∀ a, off a + s.size a ≤ s.size a) :
    v.readCov L (Rect.unit off s.size inb).toLoadRect = View.canon L := by
  rw [View.readCov_eq_canon']; exact View.ld_unit_zero ho inb _

/-- What a whole view reads after one store of the whole shape: the payload. -/
theorem read_write_whole {sig : RefSig} {κ : Kind} {sp : Space} {s : Shape} {e : EltTy} (v : View sig κ sp s e)
    (f : v.ty.Contents (Elt F)) (w : s.Idx → Elt F e) (L : List (View.Piece (Elt F) s e)) {off : Fin s.rank → ℕ}
    (ho : off = fun _ => 0) (inb : ∀ a, off a + s.size a ≤ s.size a) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero ho inb y⟩)]
  exact View.canon_cons_unit_zero ho inb w L

/-! ## The body's branch conditions -/

/-- The condition of the body's conditional, from the grid coordinates. -/
abbrev cond0_0 (i : grid0.Coords) : Prop := k0_cond1 i = 1#1
/-- It holds at the points ≡ 0 (mod 33) — by arithmetic of the point. -/
theorem hcond0_0 : ∀ t : Fin cfg0.N, cond0_0 (grid0.coords t) ↔ t.val % 33 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_0, k0_cond1, e0, e1]
    word_cmp
   : ∀ t : Fin grid0.N, cond0_0 (grid0.coords t) ↔ t.val % 33 = 0)

/-- The staging memref of each window at a point, and that it is whole. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x512 .bf16 := Memref.whole cc0_scratch0
abbrev scM0_1 : Memref sig .tc .vmem S2x2048x512 .f32 := Memref.whole cc0_scratch1
abbrev scM0_2 : Memref sig .tc .vmem S2x256x512 .bf16 := Memref.whole cc0_scratch2

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelRIdeal.RPass

end
-- ==== Proof.RPass.Tile.lean ====
/- The tile of the transposed new factor over the extended reals: the bf16 tile of the momentum with the gradient, in
   closed form, and its product with the permuted `P_b`. -/
module

public import proofs.«01_k».proof.Proof.RPass.Decode
public import proofs.«01_k».proof.Proof.RPass.Runs

@[expose] public section

set_option maxRecDepth 16384

noncomputable section

namespace Cert.KernelRIdeal.RPass

open Idealize.ShloMosaic Idealize.ShloMosaic.TcCoe Cert.KernelRIdeal.Gen
open Cert.ReferenceRIdeal.RPass (nib)
open scoped BigOperators

/-- The momentum with the gradient at row `ρ` and column `n` of a tile, over the staged blocks. -/
def tileB (i : grid0.Coords) (x0 : Vec Ideal S1x2048x512 .bf16) (x1 : Vec Ideal S1x2048x256 .i8)
    (x2 : Vec Ideal S1x2048x128 .f32) (ρ : Fin 2048) (n : Fin 512) : Ideal .f32 :=
  FloatOps.sitofp .f32 (nib (x1 (ix3 0 ρ ⟨n.val / 2, by omega⟩)) (n.val % 2))
      * x2 (ix3 0 ρ ⟨(n.val / 128 + 128 - (amount i).toNat % 128) % 128, Nat.mod_lt _ (by decide)⟩)
    + x0 (ix3 0 ρ n)

/-- Where row `ρ` of the interleaved tile comes from. -/
def perm (ρ : Fin 2048) : Fin 2048 := ⟨ρ.val / 16 * 16 + ρ.val % 2 * 8 + ρ.val / 2 % 8, by omega⟩

theorem chunkB_apply (h : BitVec 32) (hh : h = 0#32 ∨ h = 64#32) (o : ℕ) (ho : S256x128.Slices ![0, o] S256x1) (amt : BitVec 32)
    (s : Vec Ideal S1x256x128 .f32) (codes : Vec Ideal S1x256x128 .i8) (g : Vec Ideal S1x256x128 .bf16) (r : Fin 256)
    (l : Fin 128) (hl : h.toNat + l.val / 2 < 128) :
    chunkB h o ho amt s codes g (ix2 r l)
      = FloatOps.sitofp .f32 (nib (codes (ix3 0 r ⟨h.toNat + l.val / 2, hl⟩)) (l.val % 2))
          * s (ix3 0 r ⟨(o + 128 - amt.toNat % 128) % 128, Nat.mod_lt _ (by decide)⟩)
        + g (ix3 0 r l) := by
  have hs := spread_apply h hh (shapeCast S256x128 codes shapeCasts_S1x256x128_S256x128) r l hl
  unfold chunkB
  generalize spread (F := Ideal) h (shapeCast S256x128 codes shapeCasts_S1x256x128_S256x128) = d at *
  pointwise []
  rw [hs]
  pointwise []

theorem interleave_apply (b : FVec Ideal S256x128 .f32) (r : Fin 256) (l : Fin 128) :
    interleave b (ix2 r l) = b (ix2 ⟨r.val / 16 * 16 + r.val % 2 * 8 + r.val / 2 % 8, by omega⟩ l) := by
  unfold interleave
  pointwise []
  split
  · next h => exact congrArg (fun z => b (ix2 z l)) (Fin.ext (by show r.val / 2 / 8 * 16 + r.val / 2 % 8 = _; simp only []; omega))
  · next h => exact congrArg (fun z => b (ix2 z l)) (Fin.ext (by show r.val / 2 / 8 * 16 + (8 + r.val / 2 % 8) = _; simp only []; omega))

/-- One piece of the tile, element by element. -/
theorem piece_apply (i : grid0.Coords) (x0 : Vec Ideal S1x2048x512 .bf16) (x1 : Vec Ideal S1x2048x256 .i8)
    (x2 : Vec Ideal S1x2048x128 .f32) (r c k o : ℕ) (h : BitVec 32) (hr : r + 256 ≤ 2048) (hc : c + 128 ≤ 512)
    (hk : k + 128 ≤ 256) (ho : S256x128.Slices ![0, o] S256x1) (hh : h = 0#32 ∨ h = 64#32) (e1 : c = 128 * o)
    (e2 : k + h.toNat = 64 * o) (e3 : r % 16 = 0) (p : Fin 256) (l : Fin 128) :
    interleave (blockOf i (fun r c h z => x0 ((Rect.unit (s := S1x2048x512) ![0, r, c] S1x256x128.size h).toLoadRect.idx z))
      (fun r c h z => x1 ((Rect.unit (s := S1x2048x256) ![0, r, c] S1x256x128.size h).toLoadRect.idx z))
      (fun r h z => x2 ((Rect.unit (s := S1x2048x128) ![0, r, 0] S1x256x128.size h).toLoadRect.idx z))
      r c k o h hr hc hk ho) (ix2 p l)
      = tileB i x0 x1 x2 (perm ⟨r + p.val, by omega⟩) ⟨c + l.val, by omega⟩ := by
  have hb : h.toNat ≤ 64 := by rcases hh with rfl | rfl <;> decide
  have hl : h.toNat + l.val / 2 < 128 := by omega
  rw [interleave_apply]
  unfold blockOf
  rw [chunkB_apply h hh o ho _ _ _ _ _ l hl]
  unfold tileB
  have er : ∀ q : Fin 256, q.val = p.val / 16 * 16 + p.val % 2 * 8 + p.val / 2 % 8 →
      r + 1 * q.val = (perm ⟨r + p.val, by omega⟩).val := by
    intro q hq; show r + 1 * q.val = (r + p.val) / 16 * 16 + (r + p.val) % 2 * 8 + (r + p.val) / 2 % 8
    have h1 : (r + p.val) / 16 = r / 16 + p.val / 16 := by omega
    have h2 : (r + p.val) % 2 = p.val % 2 := by omega
    have h3 : (r + p.val) / 2 % 8 = p.val / 2 % 8 := by omega
    rw [h1, h2, h3]; omega
  have em : (c + l.val) % 2 = l.val % 2 := by omega
  have eo : (c + l.val) / 128 = o := by omega
  refine congrArg₂ (· + ·) (congrArg₂ (· * ·) (congrArg (FloatOps.sitofp (F := Ideal) .f32) ?_) (congrArg x2 ?_)) (congrArg x0 ?_)
  · refine congrArg₂ nib (congrArg x1 ?_) em.symm
    funext a
    match a with
    | ⟨0, _⟩ => rfl
    | ⟨1, _⟩ => exact Fin.ext (er _ rfl)
    | ⟨2, _⟩ => exact Fin.ext (by show k + 1 * (h.toNat + l.val / 2) = (c + l.val) / 2; omega)
  · funext a
    match a with
    | ⟨0, _⟩ => rfl
    | ⟨1, _⟩ => exact Fin.ext (er _ rfl)
    | ⟨2, _⟩ => exact Fin.ext (by
        show 0 + 1 * ((o + 128 - (amount i).toNat % 128) % 128) = ((c + l.val) / 128 + 128 - (amount i).toNat % 128) % 128
        rw [eo]; omega)
  · funext a
    match a with
    | ⟨0, _⟩ => rfl
    | ⟨1, _⟩ => exact Fin.ext (er _ rfl)
    | ⟨2, _⟩ => exact Fin.ext (by show c + 1 * l.val = c + l.val; omega)

/-- The tile the pieces make, element by element. -/
def tileG (i : grid0.Coords) (x0 : Vec Ideal S1x2048x512 .bf16) (x1 : Vec Ideal S1x2048x256 .i8)
    (x2 : Vec Ideal S1x2048x128 .f32) : S2048x512.Idx → Elt Ideal .bf16 := fun y => tileB i x0 x1 x2 (perm (y 0)) (y 1)

theorem pieceOf_apply (i : grid0.Coords) (x0 : Vec Ideal S1x2048x512 .bf16) (x1 : Vec Ideal S1x2048x256 .i8)
    (x2 : Vec Ideal S1x2048x128 .f32) (r c k o : ℕ) (h : BitVec 32) (hr : r + 256 ≤ 2048) (hc : c + 128 ≤ 512)
    (hk : k + 128 ≤ 256) (ho : S256x128.Slices ![0, o] S256x1) (hh : h = 0#32 ∨ h = 64#32) (e1 : c = 128 * o)
    (e2 : k + h.toNat = 64 * o) (e3 : r % 16 = 0)
    (p : View.Piece (Elt Ideal) S2048x512 .bf16)
    (hp : p = pieceOf i (fun r c h z => x0 ((Rect.unit (s := S1x2048x512) ![0, r, c] S1x256x128.size h).toLoadRect.idx z))
      (fun r c h z => x1 ((Rect.unit (s := S1x2048x256) ![0, r, c] S1x256x128.size h).toLoadRect.idx z))
      (fun r h z => x2 ((Rect.unit (s := S1x2048x128) ![0, r, 0] S1x256x128.size h).toLoadRect.idx z))
      r c k o h hr hc hk ho) (x : p.1.shape.Idx) : p.2 x = tileG i x0 x1 x2 (p.1.emb x) := by
  subst hp
  have e : x = ix2 (x 0) (x 1) := by
    funext a
    match a with
    | ⟨0, _⟩ => rfl
    | ⟨1, _⟩ => rfl
  rw [e]
  refine (piece_apply i x0 x1 x2 r c k o h hr hc hk ho hh e1 e2 e3 (x 0) (x 1)).trans ?_
  refine congrArg₂ (fun a b => tileB i x0 x1 x2 (perm a) b) (Fin.ext ?_) (Fin.ext ?_)
  · show r + (x 0).val = r + 1 * (x 0).val; omega
  · show c + (x 1).val = c + 1 * (x 1).val; omega

theorem bbVec_apply (i : grid0.Coords) (x0 : Vec Ideal S1x2048x512 .bf16) (x1 : Vec Ideal S1x2048x256 .i8)
    (x2 : Vec Ideal S1x2048x128 .f32) (y : S2048x512.Idx) : bbVec i x0 x1 x2 y = tileB i x0 x1 x2 (perm (y 0)) (y 1) := by
  refine View.canon_apply_of_pieces (tileG i x0 x1 x2) (piecesBB i x0 x1 x2) ?_ y
    (View.cover_of_tiledL (piecesBB i x0 x1 x2) S256x128.size (by rfl) y)
  intro p hp
  simp only [piecesBB, piecesOf, List.mem_cons, List.not_mem_nil, or_false] at hp
  rcases hp with hp | hp | hp | hp | hp | hp | hp | hp | hp | hp | hp | hp | hp | hp | hp | hp | hp | hp | hp | hp | hp | hp
    | hp | hp | hp | hp | hp | hp | hp | hp | hp | hp <;>
  exact fun x => pieceOf_apply i x0 x1 x2 _ _ _ _ _ _ _ _ _ (by decide) (by decide) (by decide) (by decide) p hp x

/-- The tile of `R` transposed, element by element. -/
theorem rtTile_apply (i : grid0.Coords) (x0 : Vec Ideal S1x2048x512 .bf16) (x1 : Vec Ideal S1x2048x256 .i8)
    (x2 : Vec Ideal S1x2048x128 .f32) (x4 : Vec Ideal S1x256x2048 .bf16) (y : S1x256x512.Idx) :
    rtTile i x0 x1 x2 x4 y = ∑ ρ : Fin 2048, x4 (ix3 0 (y 1) ρ) * tileB i x0 x1 x2 (perm ρ) (y 2) := by
  have hb := bbVec_apply i x0 x1 x2
  unfold rtTile
  generalize bbVec i x0 x1 x2 = bb at *
  pointwise [k0_pay436, k0_pay435]
  exact Finset.sum_congr rfl fun ρ _ => congrArg (x4 (ix3 0 (y 1) ρ) * ·) (hb (ix2 ρ (y 2)))

end Cert.KernelRIdeal.RPass

end
-- ==== Proof.RPass.RunA.lean ====
/- The run of the body of `r_pass` at the first point of a batch. -/
module

public import proofs.«01_k».proof.Proof.RPass.Runs

@[expose] public section

set_option maxRecDepth 16384

noncomputable section

namespace Cert.KernelRIdeal.RPass

open Idealize.ShloMosaic Idealize.ShloMosaic.TcCoe Idealize.ShloMosaic.Tactic Cert.KernelRIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3092000 in
/-- The body at the first point of a batch: it leaves the tile of the new factor and the sums of squares over zero,
    and the codes, the scales and the scratch at contents not named here. -/
theorem run_A (c : Dev nD) (i : grid0.Coords) (arg2 : Memref sig .tc .vmem S1x2048x512 .bf16) (harg2 : arg2.IsWhole) (arg3 : Memref sig .tc .vmem S1x2048x256 .i8) (harg3 : arg3.IsWhole) (arg4 : Memref sig .tc .vmem S1x2048x128 .f32) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x256x512 .f32) (harg7 : arg7.IsWhole) (arg8 : Memref sig .tc .vmem S1x256x128 .f32) (harg8 : arg8.IsWhole) (arg9 : Memref sig .tc .vmem S1x2048x256 .i8) (harg9 : arg9.IsWhole) (arg10 : Memref sig .tc .vmem S1x2048x128 .f32) (harg10 : arg10.IsWhole) (arg11 : Memref sig .tc .vmem S2048x512 .bf16) (harg11 : arg11.IsWhole) (arg12 : Memref sig .tc .vmem S2x2048x512 .f32) (harg12 : arg12.IsWhole) (arg13 : Memref sig .tc .vmem S2x256x512 .bf16) (harg13 : arg13.IsWhole) (hc0 : cond0_0 i)
    (x0 : Vec F S1x2048x512 .bf16) (x1 : Vec F S1x2048x256 .i8) (x2 : Vec F S1x2048x128 .f32) (x3 : Vec F S1x2048x256 .bf16) (x4 : Vec F S1x256x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (rtTile i x0 x1 x2 x4) ∗ owns (c : Thread nD τ) arg8 fullShare (sqStep i x0 x1 x2 x4 k0_pay4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_r_pass i arg2 harg2 arg3 harg3 arg4 harg4 arg5 harg5 arg6 harg6 arg7 harg7 arg8 harg8 arg9 harg9 arg10 harg10 arg11 harg11 arg12 harg12 arg13 harg13) K := by
    intro E K
    simp only [cc0_r_pass_eq_skeleton]; unfold cc0_r_pass_skel
    simp only [k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    have hL : run_A.sl.HS0_32 c i arg2 harg2 arg3 harg3 arg4 harg4 x0 x1 x2 = piecesBB i x0 x1 x2 := by
      rw [← piecesOf_readAt i harg2 harg3 harg4 x0 x1 x2]
      dsimp only [run_A.sl.HS0_32, k0_pay404, run_A.sl.r_148, k0_pay402, k0_pay401, k0_pay399, run_A.sl.r_141, k0_pay380,
        run_A.sl.v5, run_A.sl.r_145, k0_pay393, run_A.sl.r_149, k0_pay403, k0_pay398, run_A.sl.r_147, k0_pay397,
        k0_pay395, run_A.sl.r_146, k0_pay394, k0_pay392, k0_pay390, run_A.sl.r_144, k0_pay387, run_A.sl.r_142,
        k0_pay381, run_A.sl.v609, k0_pay388, k0_pay389, k0_pay386, k0_pay384, run_A.sl.r_143, k0_pay382,
        k0_pay383, k0_pay347, k0_pay345, run_A.sl.r_120, k0_pay326, run_A.sl.r_126, k0_pay342, run_A.sl.r_124,
        k0_pay336, k0_pay343, k0_pay344, k0_pay341, k0_pay339, run_A.sl.r_125, k0_pay337, k0_pay338, k0_pay335,
        k0_pay333, run_A.sl.r_123, k0_pay332, run_A.sl.r_121, k0_pay327, k0_pay331, k0_pay329, run_A.sl.r_122,
        k0_pay328, k0_pay294, k0_pay292, run_A.sl.r_99, k0_pay275, run_A.sl.v2157, run_A.sl.v27, run_A.sl.v24,
        run_A.sl.v23, run_A.sl.r_105, k0_pay290, run_A.sl.r_103, k0_pay284, k0_pay291, k0_pay289, k0_pay287,
        run_A.sl.r_104, k0_pay285, k0_pay286, k0_pay283, k0_pay281, run_A.sl.r_102, k0_pay280, run_A.sl.r_100,
        k0_pay276, k0_pay279, run_A.sl.r_101, k0_pay277, k0_pay241, k0_pay239, run_A.sl.r_84, k0_pay238,
        run_A.sl.v1743, run_A.sl.v34, run_A.sl.v32, run_A.sl.v31, run_A.sl.v29, run_A.sl.v28, run_A.sl.v33,
        run_A.sl.v1730, run_A.sl.r_81, k0_pay232, k0_pay237, k0_pay235, run_A.sl.r_82, k0_pay233, run_A.sl.r_83,
        k0_pay234, k0_pay231, run_A.sl.r_79, k0_pay229, k0_pay227, run_A.sl.r_76, k0_pay220, run_A.sl.r_80,
        k0_pay230, k0_pay226, run_A.sl.r_77, k0_pay224, k0_pay223, k0_pay221, run_A.sl.r_78, k0_pay225,
        k0_pay190, run_A.sl.r_64, k0_pay189, k0_pay187, run_A.sl.v1316, run_A.sl.v1303, run_A.sl.r_61, k0_pay180,
        k0_pay186, run_A.sl.r_62, k0_pay184, k0_pay183, k0_pay181, run_A.sl.r_63, k0_pay185, k0_pay179,
        k0_pay177, run_A.sl.r_60, k0_pay174, run_A.sl.v1318, k0_pay175, k0_pay176, k0_pay173, k0_pay171,
        run_A.sl.v1319, run_A.sl.v893, run_A.sl.v897, run_A.sl.v436, run_A.sl.v894, k0_pay135, k0_pay133,
        run_A.sl.v889, run_A.sl.v876, run_A.sl.r_45, k0_pay131, run_A.sl.r_43, k0_pay124, k0_pay132, k0_pay130,
        k0_pay128, run_A.sl.r_44, k0_pay125, k0_pay126, k0_pay127, k0_pay123, k0_pay121, run_A.sl.r_42,
        k0_pay119, run_A.sl.v891, k0_pay120, k0_pay118, k0_pay116, run_A.sl.v911, run_A.sl.v910, run_A.sl.v905,
        run_A.sl.v892, run_A.sl.v904, run_A.sl.v902, run_A.sl.v438, run_A.sl.v909, run_A.sl.v908, k0_pay82,
        k0_pay80, run_A.sl.r_23, k0_pay62, run_A.sl.v449, run_A.sl.r_30, k0_pay78, run_A.sl.r_28, k0_pay73,
        k0_pay79, k0_pay77, k0_pay75, run_A.sl.r_29, k0_pay74, k0_pay72, k0_pay70, run_A.sl.r_26, k0_pay68,
        run_A.sl.r_24, k0_pay63, run_A.sl.r_27, k0_pay69, k0_pay67, k0_pay65, run_A.sl.r_25, k0_pay64, k0_pay27,
        k0_pay25, run_A.sl.r_1, k0_pay9, run_A.sl.r, k0_pay8, run_A.sl.r_8, k0_pay24, run_A.sl.r_6, k0_pay19,
        k0_pay23, k0_pay21, run_A.sl.r_7, k0_pay20, k0_pay18, run_A.sl.r_5, k0_pay16, run_A.sl.r_2, k0_pay10,
        k0_pay15, run_A.sl.r_3, k0_pay13, k0_pay11, run_A.sl.r_4, k0_pay14, piecesOf, pieceOf, blockOf, interleave, chunkB, spread, amount]
      rfl
    have hbb : run_A.sl.v3439 c i arg2 harg2 arg3 harg3 arg4 harg4 arg11 x0 x1 x2 = bbVec i x0 x1 x2 := by
      unfold run_A.sl.v3439; rw [hL]; exact readCov_whole _ _ zeros2 _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [read_write_whole _ _ _ _ zeros3, hbb, readAt_whole_unread harg6 x4 zeros3]
      rfl
    isplitl [H6]
    · iexists _; isplitr; swap; · iexact H6
      ipureintro
      rw [read_write_whole _ _ _ _ zeros3]
      have ho : run_A.sl.v3457 (F := F) c arg8 = k0_pay4 := by
        unfold run_A.sl.v3457 run_A.sl.H6_1
        exact View.readCov_unit_zero _ zeros3 _ _
      unfold run_A.sl.r_163
      rw [hbb, readAt_whole_unread harg6 x4 zeros3, ho]
      rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelRIdeal.RPass

end
-- ==== Proof.RPass.RunB.lean ====
/- The run of the body of `r_pass` at the other points of a batch. -/
module

public import proofs.«01_k».proof.Proof.RPass.Runs

@[expose] public section

set_option maxRecDepth 16384

noncomputable section

namespace Cert.KernelRIdeal.RPass

open Idealize.ShloMosaic Idealize.ShloMosaic.TcCoe Idealize.ShloMosaic.Tactic Cert.KernelRIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3092000 in
/-- The body at the other points of a batch: it leaves the tile of the new factor and the sums of squares over the ones it finds,
    and the codes, the scales and the scratch at contents not named here. -/
theorem run_B (c : Dev nD) (i : grid0.Coords) (arg2 : Memref sig .tc .vmem S1x2048x512 .bf16) (harg2 : arg2.IsWhole) (arg3 : Memref sig .tc .vmem S1x2048x256 .i8) (harg3 : arg3.IsWhole) (arg4 : Memref sig .tc .vmem S1x2048x128 .f32) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x256x512 .f32) (harg7 : arg7.IsWhole) (arg8 : Memref sig .tc .vmem S1x256x128 .f32) (harg8 : arg8.IsWhole) (arg9 : Memref sig .tc .vmem S1x2048x256 .i8) (harg9 : arg9.IsWhole) (arg10 : Memref sig .tc .vmem S1x2048x128 .f32) (harg10 : arg10.IsWhole) (arg11 : Memref sig .tc .vmem S2048x512 .bf16) (harg11 : arg11.IsWhole) (arg12 : Memref sig .tc .vmem S2x2048x512 .f32) (harg12 : arg12.IsWhole) (arg13 : Memref sig .tc .vmem S2x256x512 .bf16) (harg13 : arg13.IsWhole) (hc0 : ¬cond0_0 i)
    (x0 : Vec F S1x2048x512 .bf16) (x1 : Vec F S1x2048x256 .i8) (x2 : Vec F S1x2048x128 .f32) (x3 : Vec F S1x2048x256 .bf16) (x4 : Vec F S1x256x2048 .bf16) (x6 : Vec F S1x256x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (rtTile i x0 x1 x2 x4) ∗ owns (c : Thread nD τ) arg8 fullShare (sqStep i x0 x1 x2 x4 x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_r_pass i arg2 harg2 arg3 harg3 arg4 harg4 arg5 harg5 arg6 harg6 arg7 harg7 arg8 harg8 arg9 harg9 arg10 harg10 arg11 harg11 arg12 harg12 arg13 harg13) K := by
    intro E K
    simp only [cc0_r_pass_eq_skeleton]; unfold cc0_r_pass_skel
    simp only [k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0)
    sl_step
    have hL : run_B.sl.HS0_32 c i arg2 harg2 arg3 harg3 arg4 harg4 x0 x1 x2 = piecesBB i x0 x1 x2 := by
      rw [← piecesOf_readAt i harg2 harg3 harg4 x0 x1 x2]
      dsimp only [run_B.sl.HS0_32, k0_pay404, run_B.sl.r_148, k0_pay402, k0_pay401, k0_pay399, run_B.sl.r_141, k0_pay380,
        run_B.sl.v5, run_B.sl.r_145, k0_pay393, run_B.sl.r_149, k0_pay403, k0_pay398, run_B.sl.r_147, k0_pay397,
        k0_pay395, run_B.sl.r_146, k0_pay394, k0_pay392, k0_pay390, run_B.sl.r_144, k0_pay387, run_B.sl.r_142,
        k0_pay381, run_B.sl.v609, k0_pay388, k0_pay389, k0_pay386, k0_pay384, run_B.sl.r_143, k0_pay382,
        k0_pay383, k0_pay347, k0_pay345, run_B.sl.r_120, k0_pay326, run_B.sl.r_126, k0_pay342, run_B.sl.r_124,
        k0_pay336, k0_pay343, k0_pay344, k0_pay341, k0_pay339, run_B.sl.r_125, k0_pay337, k0_pay338, k0_pay335,
        k0_pay333, run_B.sl.r_123, k0_pay332, run_B.sl.r_121, k0_pay327, k0_pay331, k0_pay329, run_B.sl.r_122,
        k0_pay328, k0_pay294, k0_pay292, run_B.sl.r_99, k0_pay275, run_B.sl.v2157, run_B.sl.v27, run_B.sl.v24,
        run_B.sl.v23, run_B.sl.r_105, k0_pay290, run_B.sl.r_103, k0_pay284, k0_pay291, k0_pay289, k0_pay287,
        run_B.sl.r_104, k0_pay285, k0_pay286, k0_pay283, k0_pay281, run_B.sl.r_102, k0_pay280, run_B.sl.r_100,
        k0_pay276, k0_pay279, run_B.sl.r_101, k0_pay277, k0_pay241, k0_pay239, run_B.sl.r_84, k0_pay238,
        run_B.sl.v1743, run_B.sl.v34, run_B.sl.v32, run_B.sl.v31, run_B.sl.v29, run_B.sl.v28, run_B.sl.v33,
        run_B.sl.v1730, run_B.sl.r_81, k0_pay232, k0_pay237, k0_pay235, run_B.sl.r_82, k0_pay233, run_B.sl.r_83,
        k0_pay234, k0_pay231, run_B.sl.r_79, k0_pay229, k0_pay227, run_B.sl.r_76, k0_pay220, run_B.sl.r_80,
        k0_pay230, k0_pay226, run_B.sl.r_77, k0_pay224, k0_pay223, k0_pay221, run_B.sl.r_78, k0_pay225,
        k0_pay190, run_B.sl.r_64, k0_pay189, k0_pay187, run_B.sl.v1316, run_B.sl.v1303, run_B.sl.r_61, k0_pay180,
        k0_pay186, run_B.sl.r_62, k0_pay184, k0_pay183, k0_pay181, run_B.sl.r_63, k0_pay185, k0_pay179,
        k0_pay177, run_B.sl.r_60, k0_pay174, run_B.sl.v1318, k0_pay175, k0_pay176, k0_pay173, k0_pay171,
        run_B.sl.v1319, run_B.sl.v893, run_B.sl.v897, run_B.sl.v436, run_B.sl.v894, k0_pay135, k0_pay133,
        run_B.sl.v889, run_B.sl.v876, run_B.sl.r_45, k0_pay131, run_B.sl.r_43, k0_pay124, k0_pay132, k0_pay130,
        k0_pay128, run_B.sl.r_44, k0_pay125, k0_pay126, k0_pay127, k0_pay123, k0_pay121, run_B.sl.r_42,
        k0_pay119, run_B.sl.v891, k0_pay120, k0_pay118, k0_pay116, run_B.sl.v911, run_B.sl.v910, run_B.sl.v905,
        run_B.sl.v892, run_B.sl.v904, run_B.sl.v902, run_B.sl.v438, run_B.sl.v909, run_B.sl.v908, k0_pay82,
        k0_pay80, run_B.sl.r_23, k0_pay62, run_B.sl.v449, run_B.sl.r_30, k0_pay78, run_B.sl.r_28, k0_pay73,
        k0_pay79, k0_pay77, k0_pay75, run_B.sl.r_29, k0_pay74, k0_pay72, k0_pay70, run_B.sl.r_26, k0_pay68,
        run_B.sl.r_24, k0_pay63, run_B.sl.r_27, k0_pay69, k0_pay67, k0_pay65, run_B.sl.r_25, k0_pay64, k0_pay27,
        k0_pay25, run_B.sl.r_1, k0_pay9, run_B.sl.r, k0_pay8, run_B.sl.r_8, k0_pay24, run_B.sl.r_6, k0_pay19,
        k0_pay23, k0_pay21, run_B.sl.r_7, k0_pay20, k0_pay18, run_B.sl.r_5, k0_pay16, run_B.sl.r_2, k0_pay10,
        k0_pay15, run_B.sl.r_3, k0_pay13, k0_pay11, run_B.sl.r_4, k0_pay14, piecesOf, pieceOf, blockOf, interleave, chunkB, spread, amount]
      rfl
    have hbb : run_B.sl.v3439 c i arg2 harg2 arg3 harg3 arg4 harg4 arg11 x0 x1 x2 = bbVec i x0 x1 x2 := by
      unfold run_B.sl.v3439; rw [hL]; exact readCov_whole _ _ zeros2 _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [read_write_whole _ _ _ _ zeros3, hbb, readAt_whole_unread harg6 x4 zeros3]
      rfl
    isplitl [H6]
    · iexists _; isplitr; swap; · iexact H6
      ipureintro
      rw [read_write_whole _ _ _ _ zeros3]
      unfold run_B.sl.r_163
      rw [hbb, readAt_whole_unread harg6 x4 zeros3, readAt_whole_unread harg8 x6 zeros3]
      rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelRIdeal.RPass

end
-- ==== Proof.RPass.Frame.lean ====
/- The launch of `r_pass`: the tile of the transposed new factor and the sums of squares point by point, the body obligation,
   the run and the frame. -/
module

public import proofs.«01_k».proof.Proof.RPass.RunA
public import proofs.«01_k».proof.Proof.RPass.RunB
public import Idealize.ShloMosaic.Lib.Claim

@[expose] public section

set_option maxRecDepth 16384

noncomputable section

namespace Cert.KernelRIdeal.RPass

open Idealize.ShloMosaic Idealize.ShloMosaic.TcCoe Idealize.ShloMosaic.Tactic Cert.KernelRIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as launched, from a launch whose proof data starts from the region-entry contents. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The output windows nothing is stated of here: the codes (7) and the scales (8). -/
def forgets0 : Fin 9 → Bool := fun w => w.val == 7 || w.val == 8
theorem forgets0_5 : forgets0 (5 : Fin 9) = false := by decide
theorem forgets0_6 : forgets0 (6 : Fin 9) = false := by decide

/-- The tile of the transposed new factor after point `t`. -/
def rtAt (c : Dev nD) (t : Fin cfg0.N) : Vec F S1x256x512 .f32 :=
  rtTile (grid0.coords t) (iblk m c 0 t) (iblk m c 1 t) (iblk m c 2 t) (iblk m c 4 t)

/-- The sums of squares after point `t`, over the ones before. -/
def sqNext (c : Dev nD) (t : Fin cfg0.N) (old : Vec F S1x256x128 .f32) : Vec F S1x256x128 .f32 :=
  sqStep (grid0.coords t) (iblk m c 0 t) (iblk m c 1 t) (iblk m c 2 t) (iblk m c 4 t) old

/-- The sums of squares point by point: reset at the first point of a batch. -/
def sqAt (c : Dev nD) : (n : ℕ) → n < cfg0.N → Vec F S1x256x128 .f32
  | 0, h => sqNext m c ⟨0, h⟩ k0_pay4
  | n + 1, h => if (n + 1) % 33 = 0 then sqNext m c ⟨n + 1, h⟩ k0_pay4
      else sqNext m c ⟨n + 1, h⟩ (sqAt c n (Nat.lt_of_succ_lt h))

theorem sqAt_A (c : Dev nD) (t : Fin cfg0.N) (h : t.val % 33 = 0) : sqAt m c t.val t.isLt = sqNext m c t k0_pay4 := by
  obtain ⟨n, hn⟩ := t
  cases n with
  | zero => rfl
  | succ n => exact if_pos h

theorem sqAt_B (c : Dev nD) (t : Fin cfg0.N) (h : ¬t.val % 33 = 0) :
    sqAt m c t.val t.isLt = sqNext m c t (sqAt m c (t.val - 1) (Nat.lt_of_le_of_lt (Nat.sub_le _ _) t.isLt)) := by
  obtain ⟨n, hn⟩ := t
  cases n with
  | zero => exact absurd rfl h
  | succ n => exact if_neg h

/-- The proof data of the pipeline on core `c`: the arrays as the region finds them; after the body at point `t` each
    input's buffer at its block, the tile of the new factor and the sums of squares at the values above, the other outputs
    unnamed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rtAt m c t
    | ⟨6, _⟩ => sqAt m c t.val t.isLt
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window . -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = rtAt m c t := by dsimp only [dats]
theorem after0_6 (c : Dev nD) (t : Fin cfg0.N) : (dats m 0 c).after 6 t = sqAt m c t.val t.isLt := by dsimp only [dats]

/-- Each input's current staging buffer holds its block at every point, fetched there or not . -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that is not a batch's first, the sums' staging buffer holds what the point before left. -/
theorem before0_6_B (c : Dev nD) (t : Fin cfg0.N) (h : ¬t.val % 33 = 0) (d) :
    (dats m 0 c).before 6 t d = sqAt m c (t.val - 1) (Nat.lt_of_le_of_lt (Nat.sub_le _ _) t.isLt) := by
  have h0 : t.val ≠ 0 := fun e => h (by rw [e])
  have hf : (cfg0.win 6).flush ⟨t.val - 1, Nat.lt_of_le_of_lt (Nat.sub_le _ _) t.isLt⟩ = false := by
    rw [Bool.eq_false_iff]; intro hf
    have := (flush0_6 _).mp hf
    simp only at this
    omega
  rw [(dats m 0 c).before_out_kept 6 rfl t h0 hf (fun _ => rfl) (fun _ _ => rfl) d, after0_6]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 2400000 in
/-- The body at any point: a batch's first point runs as case A, the others as case B. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 66 := lt_of_lt_of_eq t.isLt (show cfg0.N = 66 from N_0)
  by_cases h0 : t.val % 33 = 0
  · rw [sqAt_A m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [sqAt_B m c t h0]
    simp only [before0_6_B m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (sqAt m c (t.val - 1) (Nat.lt_of_le_of_lt (Nat.sub_le _ _) t.isLt))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the arrays end as the proof data says, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frameOf m ρ (fun c => (dats m 0 c).toRForget forgets0) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelRIdeal.RPass

end
-- ==== Proof.RPass.Points.lean ====
/- The staged blocks of `r_pass` as blocks of the arrays, and the tile of `R` transposed after each point, over the
   extended reals. -/
module

public import proofs.«01_k».proof.Proof.RPass.Tile
public import proofs.«01_k».proof.Proof.RPass.Frame

@[expose] public section

set_option maxRecDepth 16384

noncomputable section

namespace Cert.KernelRIdeal.RPass

open Idealize.ShloMosaic Idealize.ShloMosaic.TcCoe Idealize.SL.Sem Cert.KernelRIdeal Cert.KernelRIdeal.Gen
open Idealize.ShloMosaic.Pipeline (Dat)
open Cert.ReferenceRIdeal.RPass
open scoped BigOperators

variable (m : (ℓ : Loc nD τ sig) → Buf (Elt Ideal) ℓ)

/-- Every window's block at every point: batch `t / 33`, tile `t % 33` held at the last. -/
theorem idx_val : ∀ t : Fin cfg0.N, win0_0.index t = ![t.val / 33, 0, min (t.val % 33) 31]
    ∧ win0_1.index t = ![t.val / 33, 0, min (t.val % 33) 31]
    ∧ win0_2.index t = ![t.val / 33, 0, 0]
    ∧ win0_3.index t = ![t.val / 33, 0, 0]
    ∧ win0_4.index t = ![t.val / 33, 0, 0]
    ∧ win0_5.index t = ![t.val / 33, 0, min (t.val % 33) 31]
    ∧ win0_6.index t = ![t.val / 33, 0, 0] :=
  (by decide +kernel : ∀ t : Fin grid0.N, _)

theorem amount_eq : ∀ t : Fin cfg0.N, (amount (grid0.coords t)).toNat = (128 - 4 * (min (t.val % 33) 31)) % 128 :=
  (by decide +kernel : ∀ t : Fin grid0.N, _)

theorem coord1 : ∀ t : Fin cfg0.N, (grid0.coords t 1).val = t.val % 33 := (by decide +kernel : ∀ t : Fin grid0.N, _)

theorem points (t : Fin cfg0.N) : t.val < 66 := t.isLt

/-- The batch of a point. -/
def bat (t : Fin cfg0.N) : Fin 2 := ⟨t.val / 33, by have := points t; omega⟩

/-- The tile of a point. -/
def til (t : Fin cfg0.N) : ℕ := min (t.val % 33) 31

theorem til_lt (t : Fin cfg0.N) : til t < 32 := by unfold til; omega

theorem iblk0 (c : Dev nD) (t : Fin cfg0.N) (ρ : Fin 2048) (n : Fin 512) :
    iblk m c 0 t (ix3 0 ρ n) = m ((c : Thread nD τ).loc main_arg0)
      (ix3 (bat t) ρ ⟨512 * til t + n.val, by have := til_lt t; omega⟩) := by
  unfold bat til
  blk_point [iblk, V, idx_val t]

theorem iblk1 (c : Dev nD) (t : Fin cfg0.N) (ρ : Fin 2048) (n : Fin 256) :
    iblk m c 1 t (ix3 0 ρ n) = m ((c : Thread nD τ).loc main_arg1)
      (ix3 (bat t) ρ ⟨256 * til t + n.val, by have := til_lt t; omega⟩) := by
  unfold bat til
  blk_point [iblk, V, idx_val t]

theorem iblk2 (c : Dev nD) (t : Fin cfg0.N) (ρ : Fin 2048) (n : Fin 128) :
    iblk m c 2 t (ix3 0 ρ n) = m ((c : Thread nD τ).loc main_arg2) (ix3 (bat t) ρ n) := by
  unfold bat
  blk_point [iblk, V, idx_val t]

theorem iblk4 (c : Dev nD) (t : Fin cfg0.N) (r : Fin 256) (ρ : Fin 2048) :
    iblk m c 4 t (ix3 0 r ρ) = m ((c : Thread nD τ).loc main_arg3) (ix3 (bat t) (perm ρ) r) := by
  unfold bat perm
  blk_point [iblk, V, idx_val t]

/-- Where a row goes in the interleaved tile. -/
def permInv (ρ : Fin 2048) : Fin 2048 := ⟨ρ.val / 16 * 16 + ρ.val % 8 * 2 + ρ.val / 8 % 2, by omega⟩

/-- The permutation of the rows is one. -/
def permEquiv : Fin 2048 ≃ Fin 2048 where
  toFun := perm
  invFun := permInv
  left_inv := (by decide +kernel : ∀ ρ : Fin 2048, permInv (perm ρ) = ρ)
  right_inv := (by decide +kernel : ∀ ρ : Fin 2048, perm (permInv ρ) = ρ)

/-- A sum over the interleaved rows is the sum over the rows. -/
theorem sum_perm (f g : Fin 2048 → Ideal .f32) (h : ∀ ρ, f ρ = g (perm ρ)) : ∑ ρ, f ρ = ∑ k, g k :=
  (Finset.sum_congr rfl fun ρ _ => h ρ).trans (permEquiv.sum_comp g)

/-- The staged tile of the momentum with the gradient is the array's. -/
theorem tileB_eq (c : Dev nD) (t : Fin cfg0.N) (ρ : Fin 2048) (n : Fin 512) :
    tileB (grid0.coords t) (iblk m c 0 t) (iblk m c 1 t) (iblk m c 2 t) ρ n
      = momB (m ((c : Thread nD τ).loc main_arg0)) (m ((c : Thread nD τ).loc main_arg1)) (m ((c : Thread nD τ).loc main_arg2))
          (bat t) ρ ⟨512 * til t + n.val, by have := til_lt t; omega⟩ := by
  have ht := til_lt t
  unfold tileB momB
  refine congrArg₂ (· + ·) (congrArg₂ (· * ·) (congrArg (FloatOps.sitofp (F := Ideal) .f32) ?_) ?_) (iblk0 m c t ρ n)
  · refine congrArg₂ nib ((iblk1 m c t ρ _).trans (congrArg (fun z => m ((c : Thread nD τ).loc main_arg1) (ix3 (bat t) ρ z)) ?_)) ?_
    · exact Fin.ext (by show 256 * til t + n.val / 2 = (512 * til t + n.val) / 2; omega)
    · show n.val % 2 = (512 * til t + n.val) % 2; omega
  · refine (iblk2 m c t ρ _).trans (congrArg (fun z => m ((c : Thread nD τ).loc main_arg2) (ix3 (bat t) ρ z)) ?_)
    refine Fin.ext ?_
    show (n.val / 128 + 128 - (amount (grid0.coords t)).toNat % 128) % 128 = (512 * til t + n.val) / 128
    rw [amount_eq]
    show (n.val / 128 + 128 - (128 - 4 * til t) % 128 % 128) % 128 = _
    omega

/-- One element of the tile of `R` transposed after a point. -/
theorem rtAt_apply (c : Dev nD) (t : Fin cfg0.N) (y : S1x256x512.Idx) :
    rtAt m c t y = elR (m ((c : Thread nD τ).loc main_arg0)) (m ((c : Thread nD τ).loc main_arg1))
      (m ((c : Thread nD τ).loc main_arg2)) (m ((c : Thread nD τ).loc main_arg3)) (bat t) (y 1)
      ⟨512 * til t + (y 2).val, by have := til_lt t; have := (show (y 2).val < 512 from (y 2).isLt); omega⟩ := by
  have h2 : (y 2).val < 512 := (y 2).isLt
  have hl := til_lt t
  refine (rtTile_apply (grid0.coords t) (iblk m c 0 t) (iblk m c 1 t) (iblk m c 2 t) (iblk m c 4 t) y).trans ?_
  refine sum_perm _ _ fun ρ => ?_
  exact congrArg₂ (fun a b : Ideal .f32 => a * b) (iblk4 m c t (y 1) ρ) (tileB_eq m c t (perm ρ) (y 2))

end Cert.KernelRIdeal.RPass

end
-- ==== Proof.RPass.Finals.lean ====
/- What the launch of `r_pass` leaves in its first two results, over the extended reals: `R` transposed and the sums of
   squares of the reference. -/
module

public import proofs.«01_k».proof.Proof.RPass.Points

@[expose] public section

set_option maxRecDepth 16384

noncomputable section

namespace Cert.KernelRIdeal.RPass

open Idealize.ShloMosaic Idealize.ShloMosaic.TcCoe Idealize.SL.Sem Cert.KernelRIdeal Cert.KernelRIdeal.Gen
open Idealize.ShloMosaic.Pipeline (Dat)
open Cert.ReferenceRIdeal.RPass
open scoped BigOperators

variable (m : (ℓ : Loc nD τ sig) → Buf (Elt Ideal) ℓ)

/-- The square of one element of `R`. -/
def sqR (c : Dev nD) (b : Fin 2) (r : Fin 256) (n : Fin 16384) : Ideal .f32 :=
  elR (m ((c : Thread nD τ).loc main_arg0)) (m ((c : Thread nD τ).loc main_arg1))
      (m ((c : Thread nD τ).loc main_arg2)) (m ((c : Thread nD τ).loc main_arg3)) b r n
    * elR (m ((c : Thread nD τ).loc main_arg0)) (m ((c : Thread nD τ).loc main_arg1))
      (m ((c : Thread nD τ).loc main_arg2)) (m ((c : Thread nD τ).loc main_arg3)) b r n

/-- What a point adds to the sums of squares: the squares of its tile's four blocks, nothing at a batch's last point. -/
def addend (c : Dev nD) (t : Fin cfg0.N) (y : S1x256x128.Idx) : Ideal .f32 :=
  if t.val % 33 < 32 then ∑ s : Fin 4, sqR m c (bat t) (y 1)
    ⟨512 * til t + 128 * s.val + (y 2).val, by
      have := til_lt t; have := (show (y 2).val < 128 from (y 2).isLt); omega⟩
  else 0

/-- The sums over one tile's blocks, from its product. -/
theorem pay438_apply (x4 : Vec Ideal S1x256x2048 .bf16) (bb : FVec Ideal S2048x512 .bf16) (r : Fin 256) (l : Fin 128) :
    k0_pay438 x4 bb (ix2 r l) = ∑ s : Fin 4, k0_pay436 x4 bb (ix3 0 r ⟨128 * s.val + l.val, by omega⟩)
      * k0_pay436 x4 bb (ix3 0 r ⟨128 * s.val + l.val, by omega⟩) := by
  have h : ∀ n : Fin 512, k0_pay436 x4 bb (ix3 0 r n) = k0_pay435 x4 bb (ix2 r n) := fun n => by
    pointwise [k0_pay436]
  simp only [h]
  rw [Fin.sum_univ_four]
  pointwise [k0_pay438]

theorem lt_word : ∀ t : Fin cfg0.N,
    Scalar.cmpi .slt (BitVec.ofNat 32 (grid0.coords t 1).val) 32#32 = if t.val % 33 < 32 then 1#1 else 0#1 :=
  (by decide +kernel : ∀ t : Fin grid0.N, _)

/-- The step of the sums of squares, element by element. -/
theorem sqNext_apply (c : Dev nD) (t : Fin cfg0.N) (old : Vec Ideal S1x256x128 .f32) (y : S1x256x128.Idx) :
    sqNext m c t old y = old y + addend m c t y := by
  have hy : (y 2).val < 128 := (y 2).isLt
  have ht := til_lt t
  unfold sqNext sqStep addend
  have hp : ∀ r l, k0_pay438 (iblk m c 4 t) (bbVec (grid0.coords t) (iblk m c 0 t) (iblk m c 1 t) (iblk m c 2 t)) (ix2 r l)
      = ∑ s : Fin 4, sqR m c (bat t) r ⟨512 * til t + 128 * s.val + l.val, by omega⟩ := by
    intro r l
    refine (pay438_apply _ _ r l).trans (Finset.sum_congr rfl fun s _ => ?_)
    have h := rtAt_apply m c t (ix3 0 r ⟨128 * s.val + l.val, by omega⟩)
    refine (congrArg₂ (fun a b : Ideal .f32 => a * b) h h).trans ?_
    refine congrArg (fun n => sqR m c (bat t) r n) (Fin.ext ?_)
    show 512 * til t + (128 * s.val + l.val) = 512 * til t + 128 * s.val + l.val
    omega
  generalize k0_pay438 (iblk m c 4 t) (bbVec (grid0.coords t) (iblk m c 0 t) (iblk m c 1 t) (iblk m c 2 t)) = p at *
  pointwise [k0_pay1]
  rw [lt_word]
  split
  · exact congrArg (fun z : Ideal .f32 => old y + z) (hp (y 1) (y 2))
  · rfl

theorem pay4_apply (y : S1x256x128.Idx) : k0_pay4 (F := Ideal) y = 0 := by
  pointwise [k0_pay4]

/-- The sums of squares after a batch's last point. -/
theorem sqAt_last (c : Dev nD) (t : Fin cfg0.N) (h : t.val % 33 = 32) (y : S1x256x128.Idx) :
    sqAt m c t.val t.isLt y = elSq (m ((c : Thread nD τ).loc main_arg0)) (m ((c : Thread nD τ).loc main_arg1))
      (m ((c : Thread nD τ).loc main_arg2)) (m ((c : Thread nD τ).loc main_arg3)) (bat t) (y 1) (y 2) := by
  have hy : (y 2).val < 128 := (y 2).isLt
  have ht := points t
  refine (Pipeline.eq_sum_fin_of_reset_step_apply_of_flush (fun n hn => sqAt m c n hn) 33 (fun _ => (0 : Ideal .f32)) (addend m c)
    (fun t h i => ?_) (fun t h i => ?_) t h y).trans ?_
  · show sqAt m c t.val t.isLt i = _
    rw [sqAt_A m c t h, sqNext_apply, pay4_apply]
  · show sqAt m c t.val t.isLt i = sqAt m c (t.val - 1) _ i + _
    rw [sqAt_B m c t h, sqNext_apply]
  · rw [zero_add, Fin.sum_univ_castSucc]
    have hlast : addend m c ⟨33 * (t.val / 33) + (Fin.last 32).val, by
        show 33 * (t.val / 33) + 32 < 66; omega⟩ y = 0 := by
      unfold addend
      rw [if_neg]
      show ¬ (33 * (t.val / 33) + 32) % 33 < 32
      omega
    refine (congrArg (fun z : Ideal .f32 => _ + z) hlast).trans ?_
    rw [add_zero]
    unfold elSq
    rw [Fin.sum_univ_tiles 32 4 rfl]
    refine Finset.sum_congr rfl fun j _ => ?_
    unfold addend
    rw [if_pos (by show (33 * (t.val / 33) + j.val) % 33 < 32; omega)]
    refine Finset.sum_congr rfl fun s _ => ?_
    refine congrArg₂ (fun b n => sqR m c b (y 1) n) (Fin.ext ?_) (Fin.ext ?_)
    · show (33 * (t.val / 33) + j.val) / 33 = t.val / 33; omega
    · show 512 * min ((33 * (t.val / 33) + j.val) % 33) 31 + 128 * s.val + (y 2).val = 128 * (j.val * 4 + s.val) + (y 2).val
      have : (33 * (t.val / 33) + j.val) % 33 = j.val := by omega
      rw [this, Nat.min_eq_left (by omega)]; omega

/-- The first result after the launch: `R` transposed. -/
theorem final_5 (c : Dev nD) : (dats m 0 c).arrAt 5 (cfgs 0).N = refRt (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  refine (rtAt_apply m c t y).trans ((refRt_apply _ _ _ _ _).trans ?_).symm
  refine congr (congr (congrArg (elR _ _ _ _) (Fin.ext ?_)) (Fin.ext ?_)) (Fin.ext ?_)
  · blk_simp [idx_val t]
    rfl
  · blk_simp [idx_val t]
    try (show 0 * 256 + (y 1).val = (y 1).val; omega)
  · blk_simp [idx_val t]
    try (show min (t.val % 33) 31 * 512 + (y 2).val = 512 * til t + (y 2).val; unfold til; omega)

/-- The second result after the launch: the sums of squares. -/
theorem final_6 (c : Dev nD) : (dats m 0 c).arrAt 6 (cfgs 0).N = refSq (m ((c : Thread nD τ).loc main_arg0))
    (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  refine (sqAt_last m c t ((flush0_6 t).mp hf) y).trans ((refSq_apply _ _ _ _ _).trans ?_).symm
  refine congr (congr (congrArg (elSq _ _ _ _) (Fin.ext ?_)) (Fin.ext ?_)) (Fin.ext ?_)
  · blk_simp [idx_val t]
    rfl
  · blk_simp [idx_val t]
    try (show 0 * 256 + (y 1).val = (y 1).val; omega)
  · blk_simp [idx_val t]
    try (show 0 * 128 + (y 2).val = (y 2).val; omega)

/-- The launch, with its first two results named and its arguments unchanged. -/
theorem run_values (g : Dev nD → PrngReg) :
    θ_run defs (onTc (τ := τ) (main (F := Ideal))) ⟨m, fun _ => 0, g⟩ (fun r => ∀ c : Dev nD,
      r.2.mem ((c.tc : Thread nD τ).loc main_v4_0) = refRt (m ((c : Thread nD τ).loc main_arg0))
        (m ((c : Thread nD τ).loc main_arg1)) (m ((c : Thread nD τ).loc main_arg2)) (m ((c : Thread nD τ).loc main_arg3))
      ∧ r.2.mem ((c.tc : Thread nD τ).loc main_v4_1) = refSq (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((dats m 0 c).toRForget_arrAt_iff forgets0_5 _ _).mp ((h.1 c).1 5)).trans (final_5 m c),
      (((dats m 0 c).toRForget_arrAt_iff forgets0_6 _ _).mp ((h.1 c).1 6)).trans (final_6 m c), h.2 c⟩)
    (θ_run_and (run_main m g) (unchanged m g))

end Cert.KernelRIdeal.RPass

end
-- ==== Proof.lean ====
module

public import proofs.«01_k».proof.Defs
public import proofs.«01_k».proof.Proof.Gen.KernelP
public import proofs.«01_k».proof.Proof.Gen.KernelP.Frame
public import proofs.«01_k».proof.Proof.Gen.KernelP.Skeleton
public import proofs.«01_k».proof.Proof.Gen.KernelPIdeal
public import proofs.«01_k».proof.Proof.Gen.KernelPIdeal.Frame
public import proofs.«01_k».proof.Proof.Gen.KernelPIdeal.Skeleton
public import proofs.«01_k».proof.Proof.Gen.KernelR
public import proofs.«01_k».proof.Proof.Gen.KernelR.Frame
public import proofs.«01_k».proof.Proof.Gen.KernelRIdeal
public import proofs.«01_k».proof.Proof.Gen.KernelRIdeal.Frame
public import proofs.«01_k».proof.Proof.Gen.KernelW
public import proofs.«01_k».proof.Proof.Gen.KernelW.Frame
public import proofs.«01_k».proof.Proof.Gen.KernelWIdeal
public import proofs.«01_k».proof.Proof.Gen.KernelWIdeal.Frame
public import proofs.«01_k».proof.Proof.Gen.ReferenceWIdeal
public import proofs.«01_k».proof.Proof.Gen.ReferenceWIdeal.Run
public import proofs.«01_k».proof.Proof.WPass.NewWeights
public import proofs.«01_k».proof.Proof.WPass.Update
public import proofs.«01_k».proof.Proof.WPass.NewQ
public import proofs.«01_k».proof.Proof.PBits.Frame
public import proofs.«01_k».proof.Proof.PPass.Finals
public import proofs.«01_k».proof.Proof.RBits.Frame
public import proofs.«01_k».proof.Proof.RPass.Finals
public import proofs.«01_k».proof.Proof.Gen.ReferenceRIdeal
public import proofs.«01_k».proof.Proof.Gen.ReferenceRIdeal.Run
public import proofs.«01_k».proof.Proof.Gen.ReferencePIdeal
public import proofs.«01_k».proof.Proof.Gen.ReferencePIdeal.Run
public import Idealize.ShloMosaic.Lib.Claim
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference of the weight pass runs and leaves its arguments unchanged. -/
theorem frame_reference_w : Cert.quiescent_ReferenceWIdeal := fun m ρ _ =>
  (θ_run Cert.ReferenceWIdeal.defs _ _).mono
    (fun r h => ⟨fun c => (h c).2.2.2, sem_eq_zero_of_no_sems (by decide) r.2⟩)
    (Cert.ReferenceWIdeal.Value.run m ρ)

/-- The reference of the pass that makes `R` runs and leaves its arguments unchanged. -/
theorem frame_reference_r : Cert.quiescent_ReferenceRIdeal := fun m ρ _ =>
  (θ_run Cert.ReferenceRIdeal.defs _ _).mono
    (fun r h => ⟨fun c => (h c).2.2, sem_eq_zero_of_no_sems (by decide) r.2⟩)
    (Cert.ReferenceRIdeal.Value.run m ρ)

/-- The reference of the pass that makes `P` runs and leaves its arguments unchanged. -/
theorem frame_reference_p : Cert.quiescent_ReferencePIdeal := fun m ρ _ =>
  (θ_run Cert.ReferencePIdeal.defs _ _).mono
    (fun r h => ⟨fun c => (h c).2, sem_eq_zero_of_no_sems (by decide) r.2⟩)
    (Cert.ReferencePIdeal.Value.run m ρ)

/-- The result of the reference of `p_pass`, from arguments equal to given ones. -/
theorem reference_p {g g' : FVec Ideal Cert.ReferencePIdeal.S2x2048x16384 .bf16} {k k' : IVec Cert.ReferencePIdeal.S2x2048x8192 8}
    {s s' : FVec Ideal Cert.ReferencePIdeal.S2x2048x128 .f32} {q q' : FVec Ideal Cert.ReferencePIdeal.S2x16384x256 .bf16}
    (hg : g' = g) (hk : k' = k) (hs : s' = s) (hq : q' = q) :
    Cert.ReferencePIdeal.PPass.refP g' k' s' q' = Cert.ReferencePIdeal.PPass.refP g k s q := by
  subst hg hk hs hq; rfl

/-- The pass that makes `P` and its reference give the same `P`, its rows interleaved. -/
theorem algebraic_p : Cert.algebraic_KernelPIdeal_ReferencePIdeal := fun m g m' g' _ hag =>
  ⟨fun _ => Cert.ReferencePIdeal.PPass.refP _ _ _ _,
    Cert.KernelPIdeal.PPass.run_values m g,
    (θ_run Cert.ReferencePIdeal.defs _ _).mono
      (fun r h c => ⟨(h c).1.trans (reference_p (hag c).1 (hag c).2.1 (hag c).2.2.1 (hag c).2.2.2), (h c).2⟩)
      (Cert.ReferencePIdeal.Value.run m' g')⟩

/-- The reference's first result, from arguments equal to given ones. -/
theorem reference_rt {g g' : FVec Ideal Cert.ReferenceRIdeal.S2x2048x16384 .bf16} {k k' : IVec Cert.ReferenceRIdeal.S2x2048x8192 8}
    {s s' : FVec Ideal Cert.ReferenceRIdeal.S2x2048x128 .f32} {p p' : FVec Ideal Cert.ReferenceRIdeal.S2x2048x256 .bf16}
    (hg : g' = g) (hk : k' = k) (hs : s' = s) (hp : p' = p) :
    Cert.ReferenceRIdeal.RPass.refRt g' k' s' p' = Cert.ReferenceRIdeal.RPass.refRt g k s p := by
  subst hg hk hs hp; rfl

/-- The reference's second result, from arguments equal to given ones. -/
theorem reference_sq {g g' : FVec Ideal Cert.ReferenceRIdeal.S2x2048x16384 .bf16} {k k' : IVec Cert.ReferenceRIdeal.S2x2048x8192 8}
    {s s' : FVec Ideal Cert.ReferenceRIdeal.S2x2048x128 .f32} {p p' : FVec Ideal Cert.ReferenceRIdeal.S2x2048x256 .bf16}
    (hg : g' = g) (hk : k' = k) (hs : s' = s) (hp : p' = p) :
    Cert.ReferenceRIdeal.RPass.refSq g' k' s' p' = Cert.ReferenceRIdeal.RPass.refSq g k s p := by
  subst hg hk hs hp; rfl

/-- The pass that makes `R` and its reference give the same `R` transposed and the same sums of squares. -/
theorem algebraic_r : Cert.algebraic_KernelRIdeal_ReferenceRIdeal := fun m g m' g' _ hag =>
  ⟨fun _ => Cert.ReferenceRIdeal.RPass.refRt _ _ _ _, fun _ => Cert.ReferenceRIdeal.RPass.refSq _ _ _ _,
    Cert.KernelRIdeal.RPass.run_values m g,
    (θ_run Cert.ReferenceRIdeal.defs _ _).mono
      (fun r h c => ⟨(h c).1.trans (reference_rt (hag c).1 (hag c).2.1 (hag c).2.2.1 (hag c).2.2.2),
        ((h c).2.1.trans (by unfold Cert.ReferenceRIdeal.Value.res_main_v33; rfl)).trans
          (reference_sq (hag c).1 (hag c).2.1 (hag c).2.2.1 (hag c).2.2.2), (h c).2.2⟩)
      (Cert.ReferenceRIdeal.Value.run m' g')⟩

set_option maxHeartbeats 1600000 in
/-- The weight pass and its reference give the same new weights, update and new factor. -/
theorem algebraic_w : Cert.algebraic_KernelWIdeal_ReferenceWIdeal := by
  pair_intro
  · run_from Cert.KernelWIdeal.Gen.run_main m g
  · hlo_run
    · exact (Cert.KernelWIdeal.Value.final_4 m c).symm
    · exact (Cert.KernelWIdeal.Value.final_5 m c).symm
    · exact (Cert.KernelWIdeal.Value.final_6 m c).symm

theorem claim : Cert.Claim :=
  ⟨Cert.KernelP.Gen.facts, Cert.KernelPIdeal.Gen.facts, Cert.ReferencePIdeal.Gen.facts,
    Cert.KernelR.Gen.facts, Cert.KernelRIdeal.Gen.facts, Cert.ReferenceRIdeal.Gen.facts,
    Cert.KernelW.Gen.facts, Cert.KernelWIdeal.Gen.facts, Cert.ReferenceWIdeal.Gen.facts,
    fun m ρ _ => Cert.KernelP.PBits.frame m ρ,
    fun m ρ _ => Cert.KernelPIdeal.PPass.frame m ρ,
    frame_reference_p,
    fun m ρ _ => Cert.KernelR.RBits.frame m ρ,
    fun m ρ _ => Cert.KernelRIdeal.RPass.frame m ρ,
    frame_reference_r,
    fun m ρ _ => Cert.KernelW.Gen.frame m ρ,
    fun m ρ _ => Cert.KernelWIdeal.Gen.frame m ρ,
    frame_reference_w,
    ⟨IdealRules.bf16_pair.packStatement _,
      IdealRules.bf16_pair.statement _ _ Cert.KernelPIdeal.Gen.bitcasts_S512x128_w16_S256x128_w32⟩,
    algebraic_p,
    ⟨IdealRules.bf16_pair.packStatement _,
      IdealRules.bf16_pair.statement _ _ Cert.KernelRIdeal.Gen.bitcasts_S256x128_w16_S128x128_w32⟩,
    algebraic_r,
    trivial,
    algebraic_w⟩

end Cert.Proof

end
